-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v64_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v16)) (v1 : (c : Dev Cert.Kernel7Ideal.nD) → Buf (Elt Ideal) ((c.tc : Thread Cert.Kernel7Ideal.nD Cert.Kernel7Ideal.τ).loc Cert.Kernel7Ideal.main_v18)) (v2 : (c : Dev Cert.Kernel7Ideal.nD) → Buf (Elt Ideal) ((c.tc : Thread Cert.Kernel7Ideal.nD Cert.Kernel7Ideal.τ).loc Cert.Kernel7Ideal.main_v20)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_v18) = v1 c
          ∧ r.2.mem ((c.tc : Thread Cert.Kernel7Ideal.nD Cert.Kernel7Ideal.τ).loc Cert.Kernel7Ideal.main_v20) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v25) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v13_0)) (v1 : (c : Dev Cert.Kernel8Ideal.nD) → Buf (Elt Ideal) ((c.tc : Thread Cert.Kernel8Ideal.nD Cert.Kernel8Ideal.τ).loc Cert.Kernel8Ideal.main_v13_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_0) = v0 c
          ∧ r.2.mem ((c.tc : Thread Cert.Kernel8Ideal.nD Cert.Kernel8Ideal.τ).loc Cert.Kernel8Ideal.main_v13_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v33) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v13_0)) (v1 : (c : Dev Cert.Kernel9Ideal.nD) → Buf (Elt Ideal) ((c.tc : Thread Cert.Kernel9Ideal.nD Cert.Kernel9Ideal.τ).loc Cert.Kernel9Ideal.main_v13_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13_0) = v0 c
          ∧ r.2.mem ((c.tc : Thread Cert.Kernel9Ideal.nD Cert.Kernel9Ideal.τ).loc Cert.Kernel9Ideal.main_v13_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v33) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v13_0)) (v1 : (c : Dev Cert.Kernel10Ideal.nD) → Buf (Elt Ideal) ((c.tc : Thread Cert.Kernel10Ideal.nD Cert.Kernel10Ideal.τ).loc Cert.Kernel10Ideal.main_v13_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13_0) = v0 c
          ∧ r.2.mem ((c.tc : Thread Cert.Kernel10Ideal.nD Cert.Kernel10Ideal.τ).loc Cert.Kernel10Ideal.main_v13_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S16384x6144 : Shape := ⟨2, ![16384, 6144]⟩
abbrev S_ : Shape := ⟨0, ![]⟩

class Facts : Prop where
  bitsLt_bf16_f32 : FTy.bits .bf16 < FTy.bits .f32
  bcast_S_S16384x6144 : S_.BroadcastsInDim S16384x6144 (![] : Fin 0 → Fin S16384x6144.rank)

variable [Facts]

def fn {F : FTy → Type} [FloatOps F] (main_arg0 : FVec F S16384x6144 .bf16) : IVec S16384x6144 1 :=
  let main_v0 : FVec F S16384x6144 .f32 := (extf .f32 · bitsLt_bf16_f32) main_arg0
  let main_v1 : FVec F S16384x6144 .f32 := Host.absf main_v0
  let main_cst : FVec F S_ .f32 := constant S_ .f32 0x7F800000#32
  let main_v2 : FVec F S16384x6144 .f32 := broadcastInDim S16384x6144 ![] bcast_S_S16384x6144 main_cst
  let main_v3 : IVec S16384x6144 1 := cmpf .olt main_v1 main_v2
  main_v3
-- ==== Kernel.lean ====
abbrev S16384x6144 : Shape := ⟨2, ![16384, 6144]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S1x4 : Shape := ⟨2, ![1, 4]⟩
abbrev S256x4 : Shape := ⟨2, ![256, 4]⟩
abbrev S4x256 : Shape := ⟨2, ![4, 256]⟩
abbrev S4x256x1 : Shape := ⟨3, ![4, 256, 1]⟩
abbrev S16384x2048 : Shape := ⟨2, ![16384, 2048]⟩
abbrev S8x4x256x512 : Shape := ⟨4, ![8, 4, 256, 512]⟩
abbrev S512x6144 : Shape := ⟨2, ![512, 6144]⟩
abbrev S512x2048 : Shape := ⟨2, ![512, 2048]⟩
abbrev S1x4x256x512 : Shape := ⟨4, ![1, 4, 256, 512]⟩
abbrev S4x256x512 : Shape := ⟨3, ![4, 256, 512]⟩
abbrev S1x1x256x512 : Shape := ⟨4, ![1, 1, 256, 512]⟩
abbrev S256x512 : Shape := ⟨2, ![256, 512]⟩
abbrev S1x256x1 : Shape := ⟨3, ![1, 256, 1]⟩
abbrev S1x1x1 : Shape := ⟨3, ![1, 1, 1]⟩
abbrev S1x1 : Shape := ⟨2, ![1, 1]⟩

abbrev nBuf : Space → Nat
  | .hbm => 64
  | .vmem => 10
  | .smem => 0
  | _ => 0

abbrev bufTy : (tb : Table) → Fin (tcTables nBuf tb) → BufTy
  | .hbm, ⟨0, _⟩ => ⟨S16384x6144, .bf16⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S256, .f32⟩
  | .hbm, ⟨12, _⟩ => ⟨S256x1, .f32⟩
  | .hbm, ⟨13, _⟩ => ⟨S1x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S1x256x256, .f32⟩
  | .hbm, ⟨18, _⟩ => ⟨S_, .f32⟩
  | .hbm, ⟨19, _⟩ => ⟨S1x256x256, .f32⟩
  | .hbm, ⟨20, _⟩ => ⟨S1x256x256, .i1⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S1x256x256, .f32⟩
  | .hbm, ⟨25, _⟩ => ⟨S4x1x1, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S_, .f32⟩
  | .hbm, ⟨32, _⟩ => ⟨S4x256x256, .i1⟩
  | .hbm, ⟨33, _⟩ => ⟨S4x256x256, .f32⟩
  | .hbm, ⟨34, _⟩ => ⟨S4x256x256, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S1x4, .f32⟩
  | .hbm, ⟨40, _⟩ => ⟨S256x4, .f32⟩
  | .hbm, ⟨41, _⟩ => ⟨S256x4, .f32⟩
  | .hbm, ⟨42, _⟩ => ⟨S256x4, .f32⟩
  | .hbm, ⟨43, _⟩ => ⟨S256x4, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256x1, .f32⟩
  | .hbm, ⟨48, _⟩ => ⟨S1x4, .f32⟩
  | .hbm, ⟨49, _⟩ => ⟨S256x4, .f32⟩
  | .hbm, ⟨50, _⟩ => ⟨S256x4, .f32⟩
  | .hbm, ⟨51, _⟩ => ⟨S256x4, .f32⟩
  | .hbm, ⟨52, _⟩ => ⟨S256x4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S4x256, .f32⟩
  | .hbm, ⟨58, _⟩ => ⟨S4x256x1, .f32⟩
  | .hbm, ⟨59, _⟩ => ⟨S4x256, .f32⟩
  | .hbm, ⟨60, _⟩ => ⟨S4x256x1, .f32⟩
  | .hbm, ⟨61, _⟩ => ⟨S4x1x1, .f32⟩
  | .hbm, ⟨62, _⟩ => ⟨S16384x2048, .bf16⟩
  | .hbm, ⟨63, _⟩ => ⟨S8x4x256x512, .f32⟩
  | .local _ .vmem, ⟨0, _⟩ => ⟨S512x6144, .bf16⟩
  | .local _ .vmem, ⟨1, _⟩ => ⟨S512x6144, .bf16⟩
  | .local _ .vmem, ⟨2, _⟩ => ⟨S4x256x256, .f32⟩
  | .local _ .vmem, ⟨3, _⟩ => ⟨S4x256x1, .f32⟩
  | .local _ .vmem, ⟨4, _⟩ => ⟨S4x256x1, .f32⟩
  | .local _ .vmem, ⟨5, _⟩ => ⟨S4x1x1, .f32⟩
  | .local _ .vmem, ⟨6, _⟩ => ⟨S512x2048, .bf16⟩
  | .local _ .vmem, ⟨7, _⟩ => ⟨S512x2048, .bf16⟩
  | .local _ .vmem, ⟨8, _⟩ => ⟨S1x4x256x512, .f32⟩
  | .local _ .vmem, ⟨9, _⟩ => ⟨S1x4x256x512, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50_0 : Ref sig .tc := ⟨.hbm, 62, rfl⟩
abbrev main_v50_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x6144 : Shape := ⟨2, ![16384, 6144]⟩
abbrev S8x2048x6144 : Shape := ⟨3, ![8, 2048, 6144]⟩
abbrev S8x2048x1024 : Shape := ⟨3, ![8, 2048, 1024]⟩
abbrev S8x2048x2048 : Shape := ⟨3, ![8, 2048, 2048]⟩
abbrev S8x2048x4x256 : Shape := ⟨4, ![8, 2048, 4, 256]⟩
abbrev S_ : Shape := ⟨0, ![]⟩
abbrev S8x2048x4x512 : Shape := ⟨4, ![8, 2048, 4, 512]⟩
abbrev S8x4x256x512 : Shape := ⟨4, ![8, 4, 256, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S8x16x128x4x256 : Shape := ⟨5, ![8, 16, 128, 4, 256]⟩
abbrev S16x8x128x4x256 : Shape := ⟨5, ![16, 8, 128, 4, 256]⟩
abbrev S8x16x128x4x512 : Shape := ⟨5, ![8, 16, 128, 4, 512]⟩
abbrev S16x8x128x4x512 : Shape := ⟨5, ![16, 8, 128, 4, 512]⟩
abbrev S1x8x128x4x256 : Shape := ⟨5, ![1, 8, 128, 4, 256]⟩
abbrev S8x128x4x256 : Shape := ⟨4, ![8, 128, 4, 256]⟩
abbrev S1x8x128x4x512 : Shape := ⟨5, ![1, 8, 128, 4, 512]⟩
abbrev S8x128x4x512 : Shape := ⟨4, ![8, 128, 4, 512]⟩
abbrev S8x4x128x128 : Shape := ⟨4, ![8, 4, 128, 128]⟩
abbrev S1x4x128x128 : Shape := ⟨4, ![1, 4, 128, 128]⟩
abbrev S8x4x512x128 : Shape := ⟨4, ![8, 4, 512, 128]⟩
abbrev S1x128x4x1 : Shape := ⟨4, ![1, 128, 4, 1]⟩
abbrev S1x4x1x1 : Shape := ⟨4, ![1, 4, 1, 1]⟩
abbrev S8x2048x4 : Shape := ⟨3, ![8, 2048, 4]⟩
abbrev S8x2048x4x1 : Shape := ⟨4, ![8, 2048, 4, 1]⟩
abbrev S16384x2048 : Shape := ⟨2, ![16384, 2048]⟩

abbrev nBuf : Space → Nat
  | .hbm => 179
  | .vmem => 0
  | .smem => 0
  | _ => 0

abbrev hbmTy0_0 (i : Nat) : BufTy := match i % 128 with
  | 0 => ⟨S16384x6144, .bf16⟩
  | 1 => ⟨S16384x6144, .f32⟩
  | 2 => ⟨S8x2048x6144, .f32⟩
  | 3 => ⟨S8x2048x1024, .f32⟩
  | 4 => ⟨S8x2048x1024, .f32⟩
  | 5 => ⟨S8x2048x2048, .f32⟩
  | 6 => ⟨S8x2048x2048, .f32⟩
  | 7 => ⟨S8x2048x4x256, .f32⟩
  | 8 => ⟨S_, .f32⟩
  | 9 => ⟨S8x2048x4x256, .f32⟩
  | 10 => ⟨S8x2048x4x256, .f32⟩
  | 11 => ⟨S8x2048x4x256, .f32⟩
  | 12 => ⟨S8x2048x4x512, .f32⟩
  | 13 => ⟨S_, .f32⟩
  | 14 => ⟨S8x4x256x512, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S4, .f32⟩
  | 24 => ⟨S4, .f32⟩
  | 25 => ⟨S128, .f32⟩
  | 26 => ⟨S128x1, .f32⟩
  | 27 => ⟨S1x128, .f32⟩
  | 28 => ⟨S128x128, .f32⟩
  | 29 => ⟨S128x128, .f32⟩
  | 30 => ⟨S128x128, .f32⟩
  | 31 => ⟨S1x128x128, .f32⟩
  | 32 => ⟨S_, .f32⟩
  | 33 => ⟨S1x128x128, .f32⟩
  | 34 => ⟨S1x128x128, .i1⟩
  | 35 => ⟨S_, .f32⟩
  | 36 => ⟨S128x128, .f32⟩
  | 37 => ⟨S128x128, .f32⟩
  | 38 => ⟨S1x128x128, .f32⟩
  | 39 => ⟨S4x1x1, .f32⟩
  | 40 => ⟨S4x128x128, .f32⟩
  | 41 => ⟨S4x128x128, .f32⟩
  | 42 => ⟨S4x128x128, .f32⟩
  | 43 => ⟨S4x128x128, .f32⟩
  | 44 => ⟨S_, .f32⟩
  | 45 => ⟨S_, .f32⟩
  | 46 => ⟨S4x128x128, .i1⟩
  | 47 => ⟨S4x128x128, .f32⟩
  | 48 => ⟨S4x128x128, .f32⟩
  | 49 => ⟨S128x1, .f32⟩
  | 50 => ⟨S_, .f32⟩
  | 51 => ⟨S128x1, .f32⟩
  | 52 => ⟨S128x1, .f32⟩
  | 53 => ⟨S1x4, .f32⟩
  | 54 => ⟨S128x4, .f32⟩
  | 55 => ⟨S128x4, .f32⟩
  | 56 => ⟨S128x4, .f32⟩
  | 57 => ⟨S128x4, .f32⟩
  | 58 => ⟨S_, .f32⟩
  | 59 => ⟨S128, .f32⟩
  | 60 => ⟨S128, .f32⟩
  | 61 => ⟨S128x1, .f32⟩
  | 62 => ⟨S1x4, .f32⟩
  | 63 => ⟨S128x4, .f32⟩
  | 64 => ⟨S128x4, .f32⟩
  | 65 => ⟨S128x4, .f32⟩
  | 66 => ⟨S128x4, .f32⟩
  | 67 => ⟨S_, .f32⟩
  | 68 => ⟨S4, .f32⟩
  | 69 => ⟨S4, .f32⟩
  | 70 => ⟨S4, .f32⟩
  | 71 => ⟨S8x16x128x4x256, .f32⟩
  | 72 => ⟨S16x8x128x4x256, .f32⟩
  | 73 => ⟨S8x16x128x4x256, .f32⟩
  | 74 => ⟨S16x8x128x4x256, .f32⟩
  | 75 => ⟨S8x16x128x4x512, .f32⟩
  | 76 => ⟨S16x8x128x4x512, .f32⟩
  | 77 => ⟨S_, .f32⟩
  | 78 => ⟨S16x8x128x4x512, .f32⟩
  | 79 => ⟨S_, .i32⟩
  | 80 => ⟨S16x8x128x4x256, .f32⟩
  | 81 => ⟨S16x8x128x4x256, .f32⟩
  | 82 => ⟨S16x8x128x4x512, .f32⟩
  | 83 => ⟨S4x128x128, .f32⟩
  | 84 => ⟨S128x4, .f32⟩
  | 85 => ⟨S4, .f32⟩
  | 86 => ⟨S128x4, .f32⟩
  | 87 => ⟨S_, .i32⟩
  | 88 => ⟨S8x4x256x512, .f32⟩
  | 89 => ⟨S16x8x128x4x512, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x8x128x4x256, .f32⟩
  | 97 => ⟨S8x128x4x256, .f32⟩
  | 98 => ⟨S_, .i32⟩
  | 99 => ⟨S_, .i32⟩
  | 100 => ⟨S_, .i32⟩
  | 101 => ⟨S_, .i32⟩
  | 102 => ⟨S1x8x128x4x256, .f32⟩
  | 103 => ⟨S8x128x4x256, .f32⟩
  | 104 => ⟨S_, .i32⟩
  | 105 => ⟨S_, .i32⟩
  | 106 => ⟨S_, .i32⟩
  | 107 => ⟨S_, .i32⟩
  | 108 => ⟨S1x8x128x4x512, .f32⟩
  | 109 => ⟨S8x128x4x512, .f32⟩
  | 110 => ⟨S8x4x128x128, .f32⟩
  | 111 => ⟨S1x4x128x128, .f32⟩
  | 112 => ⟨S8x4x128x128, .f32⟩
  | 113 => ⟨S8x4x128x128, .f32⟩
  | 114 => ⟨S8x4x512x128, .f32⟩
  | 115 => ⟨S8x128x4x512, .f32⟩
  | 116 => ⟨S8x4x512x128, .f32⟩
  | 117 => ⟨S8x128x4x512, .f32⟩
  | 118 => ⟨S1x128x4x1, .f32⟩
  | 119 => ⟨S8x128x4x512, .f32⟩
  | 120 => ⟨S8x128x4x512, .f32⟩
  | 121 => ⟨S8x128x4x512, .f32⟩
  | 122 => ⟨S1x4x1x1, .f32⟩
  | 123 => ⟨S8x4x256x512, .f32⟩
  | 124 => ⟨S8x4x256x512, .f32⟩
  | 125 => ⟨S1x128x4x1, .f32⟩
  | 126 => ⟨S8x128x4x256, .f32⟩
  | 127 => ⟨S8x128x4x256, .f32⟩
  | _ => ⟨S16384x6144, .bf16⟩

abbrev hbmTy0_1 (i : Nat) : BufTy := match i % 128 with
  | 0 => ⟨S8x4x256x512, .f32⟩
  | 1 => ⟨S8x4x256x512, .f32⟩
  | 2 => ⟨S1x8x128x4x512, .f32⟩
  | 3 => ⟨S_, .i32⟩
  | 4 => ⟨S_, .i32⟩
  | 5 => ⟨S_, .i32⟩
  | 6 => ⟨S_, .i32⟩
  | 7 => ⟨S16x8x128x4x512, .f32⟩
  | 8 => ⟨S_, .i32⟩
  | 9 => ⟨S_, .i32⟩
  | 10 => ⟨S8x16x128x4x512, .f32⟩
  | 11 => ⟨S8x2048x4x512, .f32⟩
  | 12 => ⟨S_, .f32⟩
  | 13 => ⟨S8x2048x4, .f32⟩
  | 14 => ⟨S8x2048x4x1, .f32⟩
  | 15 => ⟨S_, .f32⟩
  | 16 => ⟨S8x2048x4x1, .f32⟩
  | 17 => ⟨S8x2048x4x1, .f32⟩
  | 18 => ⟨S8x2048x4x512, .f32⟩
  | 19 => ⟨S8x2048x4x512, .f32⟩
  | 20 => ⟨S8x2048x4x512, .f32⟩
  | 21 => ⟨S_, .f32⟩
  | 22 => ⟨S8x2048x4, .f32⟩
  | 23 => ⟨S8x2048x4x1, .f32⟩
  | 24 => ⟨S_, .f32⟩
  | 25 => ⟨S8x2048x4x1, .f32⟩
  | 26 => ⟨S8x2048x4x1, .f32⟩
  | 27 => ⟨S8x2048x4x512, .f32⟩
  | 28 => ⟨S8x2048x4x512, .f32⟩
  | 29 => ⟨S_, .f32⟩
  | 30 => ⟨S8x2048x4x1, .f32⟩
  | 31 => ⟨S8x2048x4x1, .f32⟩
  | 32 => ⟨S8x2048x4x1, .f32⟩
  | 33 => ⟨S8x2048x4x512, .f32⟩
  | 34 => ⟨S8x2048x4x512, .f32⟩
  | 35 => ⟨S16384x6144, .f32⟩
  | 36 => ⟨S8x2048x6144, .f32⟩
  | 37 => ⟨S8x2048x2048, .f32⟩
  | 38 => ⟨S8x2048x2048, .f32⟩
  | 39 => ⟨S8x2048x2048, .f32⟩
  | 40 => ⟨S8x2048x2048, .f32⟩
  | 41 => ⟨S_, .f32⟩
  | 42 => ⟨S8x2048x2048, .f32⟩
  | 43 => ⟨S8x2048x2048, .f32⟩
  | 44 => ⟨S_, .f32⟩
  | 45 => ⟨S8x2048x2048, .f32⟩
  | 46 => ⟨S8x2048x2048, .f32⟩
  | 47 => ⟨S8x2048x2048, .f32⟩
  | 48 => ⟨S8x2048x2048, .f32⟩
  | 49 => ⟨S8x2048x2048, .bf16⟩
  | 50 => ⟨S16384x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_3 : Ref sig .tc := ⟨.hbm, 32, rfl⟩
abbrev main_v27 : Ref sig .tc := ⟨.hbm, 33, rfl⟩
abbrev main_v28 : Ref sig .tc := ⟨.hbm, 34, rfl⟩
abbrev main_cst_4 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_c : Ref sig .tc := ⟨.hbm, 79, rfl⟩
abbrev main_v64_0 : Ref sig .tc := ⟨.hbm, 80, rfl⟩
abbrev main_v64_1 : Ref sig .tc := ⟨.hbm, 81, rfl⟩
abbrev main_v64_2 : Ref sig .tc := ⟨.hbm, 82, rfl⟩
abbrev main_v64_3 : Ref sig .tc := ⟨.hbm, 83, rfl⟩
abbrev main_v64_4 : Ref sig .tc := ⟨.hbm, 84, rfl⟩
abbrev main_v64_5 : Ref sig .tc := ⟨.hbm, 85, rfl⟩
abbrev main_v64_6 : Ref sig .tc := ⟨.hbm, 86, rfl⟩
abbrev main_v64_7 : Ref sig .tc := ⟨.hbm, 87, rfl⟩
abbrev main_v64_8 : Ref sig .tc := ⟨.hbm, 88, rfl⟩
abbrev main_v64_9 : Ref sig .tc := ⟨.hbm, 89, rfl⟩
abbrev main_while0c_c_24 : Ref sig .tc := ⟨.hbm, 90, rfl⟩
abbrev main_while0c_v93 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_call1_c_1 : Ref sig .tc := ⟨.hbm, 94, rfl⟩
abbrev main_while0b_call1_c_2 : Ref sig .tc := ⟨.hbm, 95, rfl⟩
abbrev main_while0b_call1_v0 : Ref sig .tc := ⟨.hbm, 96, rfl⟩
abbrev main_while0b_v93 : Ref sig .tc := ⟨.hbm, 97, rfl⟩
abbrev main_while0b_call2_c : Ref sig .tc := ⟨.hbm, 98, rfl⟩
abbrev main_while0b_call2_c_0 : Ref sig .tc := ⟨.hbm, 99, rfl⟩
abbrev main_while0b_call2_c_1 : Ref sig .tc := ⟨.hbm, 100, rfl⟩
abbrev main_while0b_call2_c_2 : Ref sig .tc := ⟨.hbm, 101, rfl⟩
abbrev main_while0b_call2_v0 : Ref sig .tc := ⟨.hbm, 102, rfl⟩
abbrev main_while0b_v94 : Ref sig .tc := ⟨.hbm, 103, rfl⟩
abbrev main_while0b_call3_c : Ref sig .tc := ⟨.hbm, 104, rfl⟩
abbrev main_while0b_call3_c_0 : Ref sig .tc := ⟨.hbm, 105, rfl⟩
abbrev main_while0b_call3_c_1 : Ref sig .tc := ⟨.hbm, 106, rfl⟩
abbrev main_while0b_call3_c_2 : Ref sig .tc := ⟨.hbm, 107, rfl⟩
abbrev main_while0b_call3_v0 : Ref sig .tc := ⟨.hbm, 108, rfl⟩
abbrev main_while0b_v95 : Ref sig .tc := ⟨.hbm, 109, rfl⟩
abbrev main_while0b_v96 : Ref sig .tc := ⟨.hbm, 110, rfl⟩
abbrev main_while0b_v97 : Ref sig .tc := ⟨.hbm, 111, rfl⟩
abbrev main_while0b_v98 : Ref sig .tc := ⟨.hbm, 112, rfl⟩
abbrev main_while0b_v99 : Ref sig .tc := ⟨.hbm, 113, rfl⟩
abbrev main_while0b_v100 : Ref sig .tc := ⟨.hbm, 114, rfl⟩
abbrev main_while0b_v101 : Ref sig .tc := ⟨.hbm, 115, rfl⟩
abbrev main_while0b_v102 : Ref sig .tc := ⟨.hbm, 116, rfl⟩
abbrev main_while0b_v103 : Ref sig .tc := ⟨.hbm, 117, rfl⟩
abbrev main_while0b_v104 : Ref sig .tc := ⟨.hbm, 118, rfl⟩
abbrev main_while0b_v105 : Ref sig .tc := ⟨.hbm, 119, rfl⟩
abbrev main_while0b_v106 : Ref sig .tc := ⟨.hbm, 120, rfl⟩
abbrev main_while0b_v107 : Ref sig .tc := ⟨.hbm, 121, rfl⟩
abbrev main_while0b_v108 : Ref sig .tc := ⟨.hbm, 122, rfl⟩
abbrev main_while0b_v109 : Ref sig .tc := ⟨.hbm, 123, rfl⟩
abbrev main_while0b_v110 : Ref sig .tc := ⟨.hbm, 124, rfl⟩
abbrev main_while0b_v111 : Ref sig .tc := ⟨.hbm, 125, rfl⟩
abbrev main_while0b_v112 : Ref sig .tc := ⟨.hbm, 126, rfl⟩
abbrev main_while0b_v113 : Ref sig .tc := ⟨.hbm, 127, rfl⟩
abbrev main_while0b_v114 : Ref sig .tc := ⟨.hbm, 128, rfl⟩
abbrev main_while0b_v115 : Ref sig .tc := ⟨.hbm, 129, rfl⟩
abbrev main_while0b_call4_v0 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_v116 : Ref sig .tc := ⟨.hbm, 135, rfl⟩
abbrev main_while0b_c_24 : Ref sig .tc := ⟨.hbm, 136, rfl⟩
abbrev main_while0b_v117 : Ref sig .tc := ⟨.hbm, 137, rfl⟩
abbrev main_v65 : Ref sig .tc := ⟨.hbm, 138, rfl⟩
abbrev main_v66 : Ref sig .tc := ⟨.hbm, 139, rfl⟩
abbrev main_cst_10 : Ref sig .tc := ⟨.hbm, 140, rfl⟩
abbrev main_v67 : Ref sig .tc := ⟨.hbm, 141, rfl⟩
abbrev main_v68 : Ref sig .tc := ⟨.hbm, 142, rfl⟩
abbrev main_cst_11 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_cst_12 : Ref sig .tc := ⟨.hbm, 149, rfl⟩
abbrev main_v74 : Ref sig .tc := ⟨.hbm, 150, rfl⟩
abbrev main_v75 : Ref sig .tc := ⟨.hbm, 151, rfl⟩
abbrev main_cst_13 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_cst_14 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_call5_v0 : Ref sig .tc := ⟨.hbm, 167, rfl⟩
abbrev main_call5_v1 : Ref sig .tc := ⟨.hbm, 168, rfl⟩
abbrev main_call5_cst : Ref sig .tc := ⟨.hbm, 169, rfl⟩
abbrev main_call5_v2 : Ref sig .tc := ⟨.hbm, 170, rfl⟩
abbrev main_call5_v3 : Ref sig .tc := ⟨.hbm, 171, rfl⟩
abbrev main_call5_cst_0 : Ref sig .tc := ⟨.hbm, 172, rfl⟩
abbrev main_call5_v4 : Ref sig .tc := ⟨.hbm, 173, rfl⟩
abbrev main_call5_v5 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16384x1024 : Shape := ⟨2, ![16384, 1024]⟩
abbrev S16384x2048 : Shape := ⟨2, ![16384, 2048]⟩
abbrev S2x2048x1024 : Shape := ⟨3, ![2, 2048, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x2048 : Shape := ⟨2, ![512, 2048]⟩
abbrev S1x2048x1024 : Shape := ⟨3, ![1, 2048, 1024]⟩
abbrev S512x2816 : Shape := ⟨2, ![512, 2816]⟩
abbrev S2048x1024 : Shape := ⟨2, ![2048, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 22
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S2x2048x1024, .f32⟩
  | .hbm, ⟨3, _⟩ => ⟨S4x4x1024, .f32⟩
  | .hbm, ⟨4, _⟩ => ⟨S4x1024x5632, .f32⟩
  | .hbm, ⟨5, _⟩ => ⟨S4x2816x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S2x2048x1024, .bf16⟩
  | .hbm, ⟨19, _⟩ => ⟨S4x1024x5632, .bf16⟩
  | .hbm, ⟨20, _⟩ => ⟨S4x2816x1024, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S512x2048, .bf16⟩
  | .local _ .vmem, ⟨7, _⟩ => ⟨S512x2048, .bf16⟩
  | .local _ .vmem, ⟨8, _⟩ => ⟨S1x2048x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S16384x2048 : Shape := ⟨2, ![16384, 2048]⟩
abbrev S2x2048x1024 : Shape := ⟨3, ![2, 2048, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x4x1024 : Shape := ⟨3, ![1, 4, 1024]⟩
abbrev S4x1024 : Shape := ⟨2, ![4, 1024]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S2x2048x1024, .f32⟩
  | .hbm, ⟨3, _⟩ => ⟨S4x4x1024, .f32⟩
  | .hbm, ⟨4, _⟩ => ⟨S4x1024x5632, .f32⟩
  | .hbm, ⟨5, _⟩ => ⟨S4x2816x1024, .f32⟩
  | .hbm, ⟨6, _⟩ => ⟨S1x4x1024, .f32⟩
  | .hbm, ⟨7, _⟩ => ⟨S4x1024, .f32⟩
  | .hbm, ⟨8, _⟩ => ⟨S16384x2048, .f32⟩
  | .hbm, ⟨9, _⟩ => ⟨S1x2048x1024, .f32⟩
  | .hbm, ⟨10, _⟩ => ⟨S2048x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024x5632, .f32⟩
  | .hbm, ⟨50, _⟩ => ⟨S1024x5632, .f32⟩
  | .hbm, ⟨51, _⟩ => ⟨S1x2816x1024, .f32⟩
  | .hbm, ⟨52, _⟩ => ⟨S2816x1024, .f32⟩
  | .hbm, ⟨53, _⟩ => ⟨S16384x5632, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x1024, .f32⟩
  | .hbm, ⟨67, _⟩ => ⟨S1x1024, .f32⟩
  | .hbm, ⟨68, _⟩ => ⟨S1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Kernel3.lean ====
abbrev S16384x1024 : Shape := ⟨2, ![16384, 1024]⟩
abbrev S4x4x1024 : Shape := ⟨3, ![4, 4, 1024]⟩
abbrev S2x1024x6144 : Shape := ⟨3, ![2, 1024, 6144]⟩
abbrev S1x1x1024 : Shape := ⟨3, ![1, 1, 1024]⟩
abbrev S1024 : Shape := ⟨1, ![1024]⟩
abbrev S1x1024 : Shape := ⟨2, ![1, 1024]⟩
abbrev S16384x6144 : Shape := ⟨2, ![16384, 6144]⟩
abbrev S1024x1024 : Shape := ⟨2, ![1024, 1024]⟩
abbrev S1x1024x6144 : Shape := ⟨3, ![1, 1024, 6144]⟩
abbrev S1024x6144 : Shape := ⟨2, ![1024, 6144]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x4x1024, .f32⟩
  | .hbm, ⟨2, _⟩ => ⟨S2x1024x6144, .f32⟩
  | .hbm, ⟨3, _⟩ => ⟨S1x1x1024, .f32⟩
  | .hbm, ⟨4, _⟩ => ⟨S1024, .f32⟩
  | .hbm, ⟨5, _⟩ => ⟨S1x1024, .f32⟩
  | .hbm, ⟨6, _⟩ => ⟨S2x1024x6144, .bf16⟩
  | .hbm, ⟨7, _⟩ => ⟨S16384x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x6144, .bf16⟩
  | .local _ .vmem, ⟨4, _⟩ => ⟨S1024x6144, .bf16⟩
  | .local _ .vmem, ⟨5, _⟩ => ⟨S1024x6144, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S4x4x1024 : Shape := ⟨3, ![4, 4, 1024]⟩
abbrev S2x1024x6144 : Shape := ⟨3, ![2, 1024, 6144]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x6144 : Shape := ⟨3, ![1, 1024, 6144]⟩
abbrev S1024x6144 : Shape := ⟨2, ![1024, 6144]⟩
abbrev S16384x6144 : Shape := ⟨2, ![16384, 6144]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4x1024, .f32⟩
  | .hbm, ⟨2, _⟩ => ⟨S2x1024x6144, .f32⟩
  | .hbm, ⟨3, _⟩ => ⟨S1x4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x6144, .f32⟩
  | .hbm, ⟨24, _⟩ => ⟨S1024x6144, .f32⟩
  | .hbm, ⟨25, _⟩ => ⟨S16384x6144, .f32⟩
  | .hbm, ⟨26, _⟩ => ⟨S16384x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel4.lean ====
abbrev S16384x1024 : Shape := ⟨2, ![16384, 1024]⟩
abbrev S1x1024x1024 : Shape := ⟨3, ![1, 1024, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x2816 : Shape := ⟨2, ![512, 2816]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 22
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S4x4x1024, .f32⟩
  | .hbm, ⟨4, _⟩ => ⟨S4x1024x5632, .f32⟩
  | .hbm, ⟨5, _⟩ => ⟨S4x2816x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1024x1024, .bf16⟩
  | .hbm, ⟨19, _⟩ => ⟨S4x1024x5632, .bf16⟩
  | .hbm, ⟨20, _⟩ => ⟨S4x2816x1024, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S1x1024x1024 : Shape := ⟨3, ![1, 1024, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x4x1024 : Shape := ⟨3, ![1, 4, 1024]⟩
abbrev S4x1024 : Shape := ⟨2, ![4, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S4x4x1024, .f32⟩
  | .hbm, ⟨4, _⟩ => ⟨S4x1024x5632, .f32⟩
  | .hbm, ⟨5, _⟩ => ⟨S4x2816x1024, .f32⟩
  | .hbm, ⟨6, _⟩ => ⟨S1x4x1024, .f32⟩
  | .hbm, ⟨7, _⟩ => ⟨S4x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S1x1024x5632, .f32⟩
  | .hbm, ⟨49, _⟩ => ⟨S1024x5632, .f32⟩
  | .hbm, ⟨50, _⟩ => ⟨S1x2816x1024, .f32⟩
  | .hbm, ⟨51, _⟩ => ⟨S2816x1024, .f32⟩
  | .hbm, ⟨52, _⟩ => ⟨S16384x5632, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S_, .f32⟩
  | .hbm, ⟨58, _⟩ => ⟨S16384x2816, .f32⟩
  | .hbm, ⟨59, _⟩ => ⟨S16384x2816, .f32⟩
  | .hbm, ⟨60, _⟩ => ⟨S_, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x1024, .f32⟩
  | .hbm, ⟨66, _⟩ => ⟨S1x1024, .f32⟩
  | .hbm, ⟨67, _⟩ => ⟨S1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel5.lean ====
abbrev S16384x1024 : Shape := ⟨2, ![16384, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 19
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x4x1024, .f32⟩
  | .hbm, ⟨2, _⟩ => ⟨S4x1024x5632, .f32⟩
  | .hbm, ⟨3, _⟩ => ⟨S4x2816x1024, .f32⟩
  | .hbm, ⟨4, _⟩ => ⟨S1x1x1024, .f32⟩
  | .hbm, ⟨5, _⟩ => ⟨S1024, .f32⟩
  | .hbm, ⟨6, _⟩ => ⟨S1x1024, .f32⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S4x1024x5632, .bf16⟩
  | .hbm, ⟨17, _⟩ => ⟨S4x2816x1024, .bf16⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x1024 : Shape := ⟨2, ![16384, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4x1024, .f32⟩
  | .hbm, ⟨2, _⟩ => ⟨S4x1024x5632, .f32⟩
  | .hbm, ⟨3, _⟩ => ⟨S4x2816x1024, .f32⟩
  | .hbm, ⟨4, _⟩ => ⟨S1x4x1024, .f32⟩
  | .hbm, ⟨5, _⟩ => ⟨S4x1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x5632, .f32⟩
  | .hbm, ⟨25, _⟩ => ⟨S1024x5632, .f32⟩
  | .hbm, ⟨26, _⟩ => ⟨S1x2816x1024, .f32⟩
  | .hbm, ⟨27, _⟩ => ⟨S2816x1024, .f32⟩
  | .hbm, ⟨28, _⟩ => ⟨S16384x5632, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S1x1024, .f32⟩
  | .hbm, ⟨43, _⟩ => ⟨S1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel6.lean ====
abbrev S128x1024 : Shape := ⟨2, ![128, 1024]⟩
abbrev S128x2048 : Shape := ⟨2, ![128, 2048]⟩
abbrev S2x2048x1024 : Shape := ⟨3, ![2, 2048, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x1x1024 : Shape := ⟨3, ![1, 1, 1024]⟩
abbrev S1024 : Shape := ⟨1, ![1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x2048x1024 : Shape := ⟨3, ![1, 2048, 1024]⟩
abbrev S128x2816 : Shape := ⟨2, ![128, 2816]⟩
abbrev S2048x1024 : Shape := ⟨2, ![2048, 1024]⟩
abbrev S128 : Shape := ⟨1, ![128]⟩
abbrev S128x1 : Shape := ⟨2, ![128, 1]⟩
abbrev S1x1024x256 : Shape := ⟨3, ![1, 1024, 256]⟩
abbrev S1024x256 : Shape := ⟨2, ![1024, 256]⟩
abbrev S128x256 : Shape := ⟨2, ![128, 256]⟩
abbrev S2816x1024 : Shape := ⟨2, ![2816, 1024]⟩

abbrev nBuf : Space → Nat
  | .hbm => 22
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x2048, .bf16⟩
  | .hbm, ⟨2, _⟩ => ⟨S2x2048x1024, .f32⟩
  | .hbm, ⟨3, _⟩ => ⟨S4x4x1024, .f32⟩
  | .hbm, ⟨4, _⟩ => ⟨S4x1024x5632, .f32⟩
  | .hbm, ⟨5, _⟩ => ⟨S4x2816x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S2x2048x1024, .bf16⟩
  | .hbm, ⟨19, _⟩ => ⟨S4x1024x5632, .bf16⟩
  | .hbm, ⟨20, _⟩ => ⟨S4x2816x1024, .bf16⟩
  | .hbm, ⟨21, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x1024x5632, .bf16⟩
  | .local _ .vmem, ⟨3, _⟩ => ⟨S1x2816x1024, .bf16⟩
  | .local _ .vmem, ⟨4, _⟩ => ⟨S1x1024, .f32⟩
  | .local _ .vmem, ⟨5, _⟩ => ⟨S128x2048, .bf16⟩
  | .local _ .vmem, ⟨6, _⟩ => ⟨S1x2048x1024, .bf16⟩
  | .local _ .vmem, ⟨7, _⟩ => ⟨S1x1024, .f32⟩
  | .local _ .vmem, ⟨8, _⟩ => ⟨S128x1024, .f32⟩
  | .local _ .vmem, ⟨9, _⟩ => ⟨S128x2816, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference6Ideal.lean ====
abbrev S128x1024 : Shape := ⟨2, ![128, 1024]⟩
abbrev S128x2048 : Shape := ⟨2, ![128, 2048]⟩
abbrev S2x2048x1024 : Shape := ⟨3, ![2, 2048, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x4x1024 : Shape := ⟨3, ![1, 4, 1024]⟩
abbrev S4x1024 : Shape := ⟨2, ![4, 1024]⟩
abbrev S1x2048x1024 : Shape := ⟨3, ![1, 2048, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S128x5632 : Shape := ⟨2, ![128, 5632]⟩
abbrev S128x2816 : Shape := ⟨2, ![128, 2816]⟩

abbrev nBuf : Space → Nat
  | .hbm => 86
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x2048, .bf16⟩
  | .hbm, ⟨2, _⟩ => ⟨S2x2048x1024, .f32⟩
  | .hbm, ⟨3, _⟩ => ⟨S4x4x1024, .f32⟩
  | .hbm, ⟨4, _⟩ => ⟨S4x1024x5632, .f32⟩
  | .hbm, ⟨5, _⟩ => ⟨S4x2816x1024, .f32⟩
  | .hbm, ⟨6, _⟩ => ⟨S1x4x1024, .f32⟩
  | .hbm, ⟨7, _⟩ => ⟨S4x1024, .f32⟩
  | .hbm, ⟨8, _⟩ => ⟨S128x2048, .f32⟩
  | .hbm, ⟨9, _⟩ => ⟨S1x2048x1024, .f32⟩
  | .hbm, ⟨10, _⟩ => ⟨S2048x1024, .f32⟩
  | .hbm, ⟨11, _⟩ => ⟨S128x1024, .f32⟩
  | .hbm, ⟨12, _⟩ => ⟨S1x1024, .f32⟩
  | .hbm, ⟨13, _⟩ => ⟨S1024, .f32⟩
  | .hbm, ⟨14, _⟩ => ⟨S128x1024, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S_, .f32⟩
  | .hbm, ⟨22, _⟩ => ⟨S128x1, .f32⟩
  | .hbm, ⟨23, _⟩ => ⟨S128x1, .f32⟩
  | .hbm, ⟨24, _⟩ => ⟨S128x1, .f32⟩
  | .hbm, ⟨25, _⟩ => ⟨S128x1024, .f32⟩
  | .hbm, ⟨26, _⟩ => ⟨S128x1024, .f32⟩
  | .hbm, ⟨27, _⟩ => ⟨S1x1024, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S1x1024, .f32⟩
  | .hbm, ⟨32, _⟩ => ⟨S1024, .f32⟩
  | .hbm, ⟨33, _⟩ => ⟨S128x1024, .f32⟩
  | .hbm, ⟨34, _⟩ => ⟨S_, .f32⟩
  | .hbm, ⟨35, _⟩ => ⟨S128, .f32⟩
  | .hbm, ⟨36, _⟩ => ⟨S128x1, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S128x1, .f32⟩
  | .hbm, ⟨44, _⟩ => ⟨S128x1024, .f32⟩
  | .hbm, ⟨45, _⟩ => ⟨S128x1024, .f32⟩
  | .hbm, ⟨46, _⟩ => ⟨S1x1024, .f32⟩
  | .hbm, ⟨47, _⟩ => ⟨S128x1024, .f32⟩
  | .hbm, ⟨48, _⟩ => ⟨S128x1024, .f32⟩
  | .hbm, ⟨49, _⟩ => ⟨S1x1024x5632, .f32⟩
  | .hbm, ⟨50, _⟩ => ⟨S1024x5632, .f32⟩
  | .hbm, ⟨51, _⟩ => ⟨S1x2816x1024, .f32⟩
  | .hbm, ⟨52, _⟩ => ⟨S2816x1024, .f32⟩
  | .hbm, ⟨53, _⟩ => ⟨S128x5632, .f32⟩
  | .hbm, ⟨54, _⟩ => ⟨S128x2816, .f32⟩
  | .hbm, ⟨55, _⟩ => ⟨S128x2816, .f32⟩
  | .hbm, ⟨56, _⟩ => ⟨S128x2816, .f32⟩
  | .hbm, ⟨57, _⟩ => ⟨S128x2816, .f32⟩
  | .hbm, ⟨58, _⟩ => ⟨S_, .f32⟩
  | .hbm, ⟨59, _⟩ => ⟨S128x2816, .f32⟩
  | .hbm, ⟨60, _⟩ => ⟨S128x2816, .f32⟩
  | .hbm, ⟨61, _⟩ => ⟨S_, .f32⟩
  | .hbm, ⟨62, _⟩ => ⟨S128x2816, .f32⟩
  | .hbm, ⟨63, _⟩ => ⟨S128x2816, .f32⟩
  | .hbm, ⟨64, _⟩ => ⟨S128x2816, .f32⟩
  | .hbm, ⟨65, _⟩ => ⟨S128x2816, .f32⟩
  | .hbm, ⟨66, _⟩ => ⟨S128x1024, .f32⟩
  | .hbm, ⟨67, _⟩ => ⟨S1x1024, .f32⟩
  | .hbm, ⟨68, _⟩ => ⟨S1024, .f32⟩
  | .hbm, ⟨69, _⟩ => ⟨S128x1024, .f32⟩
  | .hbm, ⟨70, _⟩ => ⟨S_, .f32⟩
  | .hbm, ⟨71, _⟩ => ⟨S128, .f32⟩
  | .hbm, ⟨72, _⟩ => ⟨S128x1, .f32⟩
  | .hbm, ⟨73, _⟩ => ⟨S_, .f32⟩
  | .hbm, ⟨74, _⟩ => ⟨S128x1, .f32⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128x1, .f32⟩
  | .hbm, ⟨80, _⟩ => ⟨S128x1024, .f32⟩
  | .hbm, ⟨81, _⟩ => ⟨S128x1024, .f32⟩
  | .hbm, ⟨82, _⟩ => ⟨S1x1024, .f32⟩
  | .hbm, ⟨83, _⟩ => ⟨S128x1024, .f32⟩
  | .hbm, ⟨84, _⟩ => ⟨S128x1024, .f32⟩
  | .hbm, ⟨85, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Kernel7.lean ====
abbrev S128x1024 : Shape := ⟨2, ![128, 1024]⟩
abbrev S4x4x1024 : Shape := ⟨3, ![4, 4, 1024]⟩
abbrev S1x1024x9216 : Shape := ⟨3, ![1, 1024, 9216]⟩
abbrev S9216 : Shape := ⟨1, ![9216]⟩
abbrev S_ : Shape := ⟨0, ![]⟩
abbrev S1x1x9216 : Shape := ⟨3, ![1, 1, 9216]⟩
abbrev S1x1x1024 : Shape := ⟨3, ![1, 1, 1024]⟩
abbrev S1024 : Shape := ⟨1, ![1024]⟩
abbrev S1x1024 : Shape := ⟨2, ![1, 1024]⟩
abbrev S128x9216 : Shape := ⟨2, ![128, 9216]⟩
abbrev S128 : Shape := ⟨1, ![128]⟩
abbrev S128x1 : Shape := ⟨2, ![128, 1]⟩
abbrev S1x1024x512 : Shape := ⟨3, ![1, 1024, 512]⟩
abbrev S1024x512 : Shape := ⟨2, ![1024, 512]⟩
abbrev S128x512 : Shape := ⟨2, ![128, 512]⟩
abbrev S128x1x3x3x16x64 : Shape := ⟨6, ![128, 1, 3, 3, 16, 64]⟩
abbrev S128x1x1x2x16x64 : Shape := ⟨6, ![128, 1, 1, 2, 16, 64]⟩
abbrev S128x1x2x16x64 : Shape := ⟨5, ![128, 1, 2, 16, 64]⟩

abbrev nBuf : Space → Nat
  | .hbm => 50
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S4x4x1024, .f32⟩
  | .hbm, ⟨2, _⟩ => ⟨S1x1024x9216, .f32⟩
  | .hbm, ⟨3, _⟩ => ⟨S9216, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S9216, .i32⟩
  | .hbm, ⟨11, _⟩ => ⟨S9216, .i32⟩
  | .hbm, ⟨12, _⟩ => ⟨S_, .i32⟩
  | .hbm, ⟨13, _⟩ => ⟨S9216, .i32⟩
  | .hbm, ⟨14, _⟩ => ⟨S9216, .i1⟩
  | .hbm, ⟨15, _⟩ => ⟨S_, .i32⟩
  | .hbm, ⟨16, _⟩ => ⟨S9216, .i32⟩
  | .hbm, ⟨17, _⟩ => ⟨S9216, .i1⟩
  | .hbm, ⟨18, _⟩ => ⟨S_, .i32⟩
  | .hbm, ⟨19, _⟩ => ⟨S_, .i1⟩
  | .hbm, ⟨20, _⟩ => ⟨S9216, .i1⟩
  | .hbm, ⟨21, _⟩ => ⟨S9216, .i1⟩
  | .hbm, ⟨22, _⟩ => ⟨S9216, .i1⟩
  | .hbm, ⟨23, _⟩ => ⟨S9216, .i32⟩
  | .hbm, ⟨24, _⟩ => ⟨S9216, .i32⟩
  | .hbm, ⟨25, _⟩ => ⟨S9216, .i32⟩
  | .hbm, ⟨26, _⟩ => ⟨S_, .i32⟩
  | .hbm, ⟨27, _⟩ => ⟨S9216, .i32⟩
  | .hbm, ⟨28, _⟩ => ⟨S9216, .i1⟩
  | .hbm, ⟨29, _⟩ => ⟨S_, .f32⟩
  | .hbm, ⟨30, _⟩ => ⟨S_, .f32⟩
  | .hbm, ⟨31, _⟩ => ⟨S9216, .f32⟩
  | .hbm, ⟨32, _⟩ => ⟨S9216, .f32⟩
  | .hbm, ⟨33, _⟩ => ⟨S9216, .f32⟩
  | .hbm, ⟨34, _⟩ => ⟨S9216, .f32⟩
  | .hbm, ⟨35, _⟩ => ⟨S1x1x9216, .f32⟩
  | .hbm, ⟨36, _⟩ => ⟨S1x1024x9216, .f32⟩
  | .hbm, ⟨37, _⟩ => ⟨S1x1024x9216, .f32⟩
  | .hbm, ⟨38, _⟩ => ⟨S1x1x1024, .f32⟩
  | .hbm, ⟨39, _⟩ => ⟨S1024, .f32⟩
  | .hbm, ⟨40, _⟩ => ⟨S1x1024, .f32⟩
  | .hbm, ⟨41, _⟩ => ⟨S1x1024x9216, .bf16⟩
  | .hbm, ⟨42, _⟩ => ⟨S128x9216, .f32⟩
  | .hbm, ⟨43, _⟩ => ⟨S128x1x3x3x16x64, .f32⟩
  | .hbm, ⟨44, _⟩ => ⟨S128x1x1x2x16x64, .f32⟩
  | .hbm, ⟨45, _⟩ => ⟨S128x1x2x16x64, .f32⟩
  | .hbm, ⟨46, _⟩ => ⟨S128x1x1x2x16x64, .f32⟩
  | .hbm, ⟨47, _⟩ => ⟨S128x1x2x16x64, .f32⟩
  | .hbm, ⟨48, _⟩ => ⟨S128x1x1x2x16x64, .f32⟩
  | .hbm, ⟨49, _⟩ => ⟨S128x1x2x16x64, .f32⟩
  | .local _ .vmem, ⟨0, _⟩ => ⟨S128x1024, .f32⟩
  | .local _ .vmem, ⟨1, _⟩ => ⟨S1x1024, .f32⟩
  | .local _ .vmem, ⟨2, _⟩ => ⟨S1x1024x9216, .bf16⟩
  | .local _ .vmem, ⟨3, _⟩ => ⟨S128x9216, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x9216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference7Ideal.lean ====
abbrev S128x1024 : Shape := ⟨2, ![128, 1024]⟩
abbrev S4x4x1024 : Shape := ⟨3, ![4, 4, 1024]⟩
abbrev S1x1024x9216 : Shape := ⟨3, ![1, 1024, 9216]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x9216 : Shape := ⟨2, ![1024, 9216]⟩
abbrev S128x9216 : Shape := ⟨2, ![128, 9216]⟩
abbrev S128x1x3x3x16x64 : Shape := ⟨6, ![128, 1, 3, 3, 16, 64]⟩
abbrev S128x1x1x2x16x64 : Shape := ⟨6, ![128, 1, 1, 2, 16, 64]⟩
abbrev S128x1x2x16x64 : Shape := ⟨5, ![128, 1, 2, 16, 64]⟩

abbrev nBuf : Space → Nat
  | .hbm => 32
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x4x1024, .f32⟩
  | .hbm, ⟨2, _⟩ => ⟨S1x1024x9216, .f32⟩
  | .hbm, ⟨3, _⟩ => ⟨S1x4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S128x1024, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | .hbm, ⟨23, _⟩ => ⟨S1024x9216, .f32⟩
  | .hbm, ⟨24, _⟩ => ⟨S128x9216, .f32⟩
  | .hbm, ⟨25, _⟩ => ⟨S128x1x3x3x16x64, .f32⟩
  | .hbm, ⟨26, _⟩ => ⟨S128x1x1x2x16x64, .f32⟩
  | .hbm, ⟨27, _⟩ => ⟨S128x1x2x16x64, .f32⟩
  | .hbm, ⟨28, _⟩ => ⟨S128x1x1x2x16x64, .f32⟩
  | .hbm, ⟨29, _⟩ => ⟨S128x1x2x16x64, .f32⟩
  | .hbm, ⟨30, _⟩ => ⟨S128x1x1x2x16x64, .f32⟩
  | .hbm, ⟨31, _⟩ => ⟨S128x1x2x16x64, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel8.lean ====
abbrev S8x2048x1024 : Shape := ⟨3, ![8, 2048, 1024]⟩
abbrev S4x4x1024 : Shape := ⟨3, ![4, 4, 1024]⟩
abbrev S1x1024x9216 : Shape := ⟨3, ![1, 1024, 9216]⟩
abbrev S9216 : Shape := ⟨1, ![9216]⟩
abbrev S_ : Shape := ⟨0, ![]⟩
abbrev S1x1x9216 : Shape := ⟨3, ![1, 1, 9216]⟩
abbrev S1x1x1024 : Shape := ⟨3, ![1, 1, 1024]⟩
abbrev S1024 : Shape := ⟨1, ![1024]⟩
abbrev S1x1024 : Shape := ⟨2, ![1, 1024]⟩
abbrev S8x1x2048x3072 : Shape := ⟨4, ![8, 1, 2048, 3072]⟩
abbrev S8x128x2048 : Shape := ⟨3, ![8, 128, 2048]⟩
abbrev S1x1024x1024 : Shape := ⟨3, ![1, 1024, 1024]⟩
abbrev S1x1024x3072 : Shape := ⟨3, ![1, 1024, 3072]⟩
abbrev S1x1x1024x3072 : Shape := ⟨4, ![1, 1, 1024, 3072]⟩
abbrev S1x128x2048 : Shape := ⟨3, ![1, 128, 2048]⟩
abbrev S4x1024x128 : Shape := ⟨3, ![4, 1024, 128]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S1x1x1024x256 : Shape := ⟨4, ![1, 1, 1024, 256]⟩
abbrev S128x256 : Shape := ⟨2, ![128, 256]⟩
abbrev S1x128x256 : Shape := ⟨3, ![1, 128, 256]⟩

abbrev nBuf : Space → Nat
  | .hbm => 44
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S4x4x1024, .f32⟩
  | .hbm, ⟨2, _⟩ => ⟨S1x1024x9216, .f32⟩
  | .hbm, ⟨3, _⟩ => ⟨S9216, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S9216, .i32⟩
  | .hbm, ⟨11, _⟩ => ⟨S9216, .i32⟩
  | .hbm, ⟨12, _⟩ => ⟨S_, .i32⟩
  | .hbm, ⟨13, _⟩ => ⟨S9216, .i32⟩
  | .hbm, ⟨14, _⟩ => ⟨S9216, .i1⟩
  | .hbm, ⟨15, _⟩ => ⟨S_, .i32⟩
  | .hbm, ⟨16, _⟩ => ⟨S9216, .i32⟩
  | .hbm, ⟨17, _⟩ => ⟨S9216, .i1⟩
  | .hbm, ⟨18, _⟩ => ⟨S_, .i32⟩
  | .hbm, ⟨19, _⟩ => ⟨S_, .i1⟩
  | .hbm, ⟨20, _⟩ => ⟨S9216, .i1⟩
  | .hbm, ⟨21, _⟩ => ⟨S9216, .i1⟩
  | .hbm, ⟨22, _⟩ => ⟨S9216, .i1⟩
  | .hbm, ⟨23, _⟩ => ⟨S9216, .i32⟩
  | .hbm, ⟨24, _⟩ => ⟨S9216, .i32⟩
  | .hbm, ⟨25, _⟩ => ⟨S9216, .i32⟩
  | .hbm, ⟨26, _⟩ => ⟨S_, .i32⟩
  | .hbm, ⟨27, _⟩ => ⟨S9216, .i32⟩
  | .hbm, ⟨28, _⟩ => ⟨S9216, .i1⟩
  | .hbm, ⟨29, _⟩ => ⟨S_, .f32⟩
  | .hbm, ⟨30, _⟩ => ⟨S_, .f32⟩
  | .hbm, ⟨31, _⟩ => ⟨S9216, .f32⟩
  | .hbm, ⟨32, _⟩ => ⟨S9216, .f32⟩
  | .hbm, ⟨33, _⟩ => ⟨S9216, .f32⟩
  | .hbm, ⟨34, _⟩ => ⟨S9216, .f32⟩
  | .hbm, ⟨35, _⟩ => ⟨S1x1x9216, .f32⟩
  | .hbm, ⟨36, _⟩ => ⟨S1x1024x9216, .f32⟩
  | .hbm, ⟨37, _⟩ => ⟨S1x1024x9216, .f32⟩
  | .hbm, ⟨38, _⟩ => ⟨S1x1x1024, .f32⟩
  | .hbm, ⟨39, _⟩ => ⟨S1024, .f32⟩
  | .hbm, ⟨40, _⟩ => ⟨S1x1024, .f32⟩
  | .hbm, ⟨41, _⟩ => ⟨S1x1024x9216, .bf16⟩
  | .hbm, ⟨42, _⟩ => ⟨S8x1x2048x3072, .bf16⟩
  | .hbm, ⟨43, _⟩ => ⟨S8x128x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x1x1024x3072, .bf16⟩
  | .local _ .vmem, ⟨5, _⟩ => ⟨S1x1x1024x3072, .bf16⟩
  | .local _ .vmem, ⟨6, _⟩ => ⟨S1x128x2048, .f32⟩
  | .local _ .vmem, ⟨7, _⟩ => ⟨S1x128x2048, .f32⟩
  | .local _ .vmem, ⟨8, _⟩ => ⟨S4x1024x128, .f32⟩
  | .local _ .vmem, ⟨9, _⟩ => ⟨S4x1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13_0 : Ref sig .tc := ⟨.hbm, 42, rfl⟩
abbrev main_v13_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S8x2048x1024 : Shape := ⟨3, ![8, 2048, 1024]⟩
abbrev S4x4x1024 : Shape := ⟨3, ![4, 4, 1024]⟩
abbrev S1x1024x9216 : Shape := ⟨3, ![1, 1024, 9216]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x9216 : Shape := ⟨2, ![1024, 9216]⟩
abbrev S8x2048x9216 : Shape := ⟨3, ![8, 2048, 9216]⟩
abbrev S8x2048x3x3x16x64 : Shape := ⟨6, ![8, 2048, 3, 3, 16, 64]⟩
abbrev S8x2048x1x1x16x64 : Shape := ⟨6, ![8, 2048, 1, 1, 16, 64]⟩
abbrev S8x2048x16x64 : Shape := ⟨4, ![8, 2048, 16, 64]⟩
abbrev S8x2048x1x2x16x64 : Shape := ⟨6, ![8, 2048, 1, 2, 16, 64]⟩
abbrev S8x2048x2x16x64 : Shape := ⟨5, ![8, 2048, 2, 16, 64]⟩
abbrev S8x2048x1x16x64 : Shape := ⟨5, ![8, 2048, 1, 16, 64]⟩
abbrev S8x2048x3x16x64 : Shape := ⟨5, ![8, 2048, 3, 16, 64]⟩
abbrev S8x2048x3072 : Shape := ⟨3, ![8, 2048, 3072]⟩
abbrev S8x2048x1x3072 : Shape := ⟨4, ![8, 2048, 1, 3072]⟩
abbrev S8x1x2048x3072 : Shape := ⟨4, ![8, 1, 2048, 3072]⟩
abbrev S8x128x2x16x64 : Shape := ⟨5, ![8, 128, 2, 16, 64]⟩
abbrev S8x128x2048 : Shape := ⟨3, ![8, 128, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x4x1024, .f32⟩
  | .hbm, ⟨2, _⟩ => ⟨S1x1024x9216, .f32⟩
  | .hbm, ⟨3, _⟩ => ⟨S1x4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x9216, .f32⟩
  | .hbm, ⟨24, _⟩ => ⟨S8x2048x9216, .f32⟩
  | .hbm, ⟨25, _⟩ => ⟨S8x2048x3x3x16x64, .f32⟩
  | .hbm, ⟨26, _⟩ => ⟨S8x2048x1x1x16x64, .f32⟩
  | .hbm, ⟨27, _⟩ => ⟨S8x2048x16x64, .f32⟩
  | .hbm, ⟨28, _⟩ => ⟨S_, .f32⟩
  | .hbm, ⟨29, _⟩ => ⟨S8x2048x16x64, .f32⟩
  | .hbm, ⟨30, _⟩ => ⟨S8x2048x16x64, .f32⟩
  | .hbm, ⟨31, _⟩ => ⟨S8x2048x1x2x16x64, .f32⟩
  | .hbm, ⟨32, _⟩ => ⟨S8x2048x2x16x64, .f32⟩
  | .hbm, ⟨33, _⟩ => ⟨S8x2048x1x16x64, .f32⟩
  | .hbm, ⟨34, _⟩ => ⟨S8x2048x3x16x64, .f32⟩
  | .hbm, ⟨35, _⟩ => ⟨S8x2048x3072, .f32⟩
  | .hbm, ⟨36, _⟩ => ⟨S8x2048x1x3072, .f32⟩
  | .hbm, ⟨37, _⟩ => ⟨S8x1x2048x3072, .f32⟩
  | .hbm, ⟨38, _⟩ => ⟨S8x1x2048x3072, .bf16⟩
  | .hbm, ⟨39, _⟩ => ⟨S8x128x2x16x64, .f32⟩
  | .hbm, ⟨40, _⟩ => ⟨S8x128x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel9.lean ====
abbrev S8x2048x1024 : Shape := ⟨3, ![8, 2048, 1024]⟩
abbrev S4x4x1024 : Shape := ⟨3, ![4, 4, 1024]⟩
abbrev S1x1024x9216 : Shape := ⟨3, ![1, 1024, 9216]⟩
abbrev S9216 : Shape := ⟨1, ![9216]⟩
abbrev S_ : Shape := ⟨0, ![]⟩
abbrev S1x1x9216 : Shape := ⟨3, ![1, 1, 9216]⟩
abbrev S1x1x1024 : Shape := ⟨3, ![1, 1, 1024]⟩
abbrev S1024 : Shape := ⟨1, ![1024]⟩
abbrev S1x1024 : Shape := ⟨2, ![1, 1024]⟩
abbrev S8x4x512x3072 : Shape := ⟨4, ![8, 4, 512, 3072]⟩
abbrev S8x512x2048 : Shape := ⟨3, ![8, 512, 2048]⟩
abbrev S1x1024x1024 : Shape := ⟨3, ![1, 1024, 1024]⟩
abbrev S1x1024x3072 : Shape := ⟨3, ![1, 1024, 3072]⟩
abbrev S1x4x256x3072 : Shape := ⟨4, ![1, 4, 256, 3072]⟩
abbrev S1x512x2048 : Shape := ⟨3, ![1, 512, 2048]⟩
abbrev S4x1024x128 : Shape := ⟨3, ![4, 1024, 128]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩
abbrev S512x256 : Shape := ⟨2, ![512, 256]⟩
abbrev S1x512x256 : Shape := ⟨3, ![1, 512, 256]⟩

abbrev nBuf : Space → Nat
  | .hbm => 44
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S4x4x1024, .f32⟩
  | .hbm, ⟨2, _⟩ => ⟨S1x1024x9216, .f32⟩
  | .hbm, ⟨3, _⟩ => ⟨S9216, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S9216, .i32⟩
  | .hbm, ⟨11, _⟩ => ⟨S9216, .i32⟩
  | .hbm, ⟨12, _⟩ => ⟨S_, .i32⟩
  | .hbm, ⟨13, _⟩ => ⟨S9216, .i32⟩
  | .hbm, ⟨14, _⟩ => ⟨S9216, .i1⟩
  | .hbm, ⟨15, _⟩ => ⟨S_, .i32⟩
  | .hbm, ⟨16, _⟩ => ⟨S9216, .i32⟩
  | .hbm, ⟨17, _⟩ => ⟨S9216, .i1⟩
  | .hbm, ⟨18, _⟩ => ⟨S_, .i32⟩
  | .hbm, ⟨19, _⟩ => ⟨S_, .i1⟩
  | .hbm, ⟨20, _⟩ => ⟨S9216, .i1⟩
  | .hbm, ⟨21, _⟩ => ⟨S9216, .i1⟩
  | .hbm, ⟨22, _⟩ => ⟨S9216, .i1⟩
  | .hbm, ⟨23, _⟩ => ⟨S9216, .i32⟩
  | .hbm, ⟨24, _⟩ => ⟨S9216, .i32⟩
  | .hbm, ⟨25, _⟩ => ⟨S9216, .i32⟩
  | .hbm, ⟨26, _⟩ => ⟨S_, .i32⟩
  | .hbm, ⟨27, _⟩ => ⟨S9216, .i32⟩
  | .hbm, ⟨28, _⟩ => ⟨S9216, .i1⟩
  | .hbm, ⟨29, _⟩ => ⟨S_, .f32⟩
  | .hbm, ⟨30, _⟩ => ⟨S_, .f32⟩
  | .hbm, ⟨31, _⟩ => ⟨S9216, .f32⟩
  | .hbm, ⟨32, _⟩ => ⟨S9216, .f32⟩
  | .hbm, ⟨33, _⟩ => ⟨S9216, .f32⟩
  | .hbm, ⟨34, _⟩ => ⟨S9216, .f32⟩
  | .hbm, ⟨35, _⟩ => ⟨S1x1x9216, .f32⟩
  | .hbm, ⟨36, _⟩ => ⟨S1x1024x9216, .f32⟩
  | .hbm, ⟨37, _⟩ => ⟨S1x1024x9216, .f32⟩
  | .hbm, ⟨38, _⟩ => ⟨S1x1x1024, .f32⟩
  | .hbm, ⟨39, _⟩ => ⟨S1024, .f32⟩
  | .hbm, ⟨40, _⟩ => ⟨S1x1024, .f32⟩
  | .hbm, ⟨41, _⟩ => ⟨S1x1024x9216, .bf16⟩
  | .hbm, ⟨42, _⟩ => ⟨S8x4x512x3072, .bf16⟩
  | .hbm, ⟨43, _⟩ => ⟨S8x512x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x4x256x3072, .bf16⟩
  | .local _ .vmem, ⟨5, _⟩ => ⟨S1x4x256x3072, .bf16⟩
  | .local _ .vmem, ⟨6, _⟩ => ⟨S1x512x2048, .f32⟩
  | .local _ .vmem, ⟨7, _⟩ => ⟨S1x512x2048, .f32⟩
  | .local _ .vmem, ⟨8, _⟩ => ⟨S4x1024x128, .f32⟩
  | .local _ .vmem, ⟨9, _⟩ => ⟨S4x1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13_0 : Ref sig .tc := ⟨.hbm, 42, rfl⟩
abbrev main_v13_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8x2048x1024 : Shape := ⟨3, ![8, 2048, 1024]⟩
abbrev S4x4x1024 : Shape := ⟨3, ![4, 4, 1024]⟩
abbrev S1x1024x9216 : Shape := ⟨3, ![1, 1024, 9216]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x9216 : Shape := ⟨2, ![1024, 9216]⟩
abbrev S8x2048x9216 : Shape := ⟨3, ![8, 2048, 9216]⟩
abbrev S8x2048x3x3x16x64 : Shape := ⟨6, ![8, 2048, 3, 3, 16, 64]⟩
abbrev S8x2048x1x1x16x64 : Shape := ⟨6, ![8, 2048, 1, 1, 16, 64]⟩
abbrev S8x2048x16x64 : Shape := ⟨4, ![8, 2048, 16, 64]⟩
abbrev S8x2048x1x2x16x64 : Shape := ⟨6, ![8, 2048, 1, 2, 16, 64]⟩
abbrev S8x2048x2x16x64 : Shape := ⟨5, ![8, 2048, 2, 16, 64]⟩
abbrev S8x2048x1x16x64 : Shape := ⟨5, ![8, 2048, 1, 16, 64]⟩
abbrev S8x2048x3x16x64 : Shape := ⟨5, ![8, 2048, 3, 16, 64]⟩
abbrev S8x2048x3072 : Shape := ⟨3, ![8, 2048, 3072]⟩
abbrev S8x512x4x3072 : Shape := ⟨4, ![8, 512, 4, 3072]⟩
abbrev S8x4x512x3072 : Shape := ⟨4, ![8, 4, 512, 3072]⟩
abbrev S8x512x2x16x64 : Shape := ⟨5, ![8, 512, 2, 16, 64]⟩
abbrev S8x512x2048 : Shape := ⟨3, ![8, 512, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x4x1024, .f32⟩
  | .hbm, ⟨2, _⟩ => ⟨S1x1024x9216, .f32⟩
  | .hbm, ⟨3, _⟩ => ⟨S1x4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x9216, .f32⟩
  | .hbm, ⟨24, _⟩ => ⟨S8x2048x9216, .f32⟩
  | .hbm, ⟨25, _⟩ => ⟨S8x2048x3x3x16x64, .f32⟩
  | .hbm, ⟨26, _⟩ => ⟨S8x2048x1x1x16x64, .f32⟩
  | .hbm, ⟨27, _⟩ => ⟨S8x2048x16x64, .f32⟩
  | .hbm, ⟨28, _⟩ => ⟨S_, .f32⟩
  | .hbm, ⟨29, _⟩ => ⟨S8x2048x16x64, .f32⟩
  | .hbm, ⟨30, _⟩ => ⟨S8x2048x16x64, .f32⟩
  | .hbm, ⟨31, _⟩ => ⟨S8x2048x1x2x16x64, .f32⟩
  | .hbm, ⟨32, _⟩ => ⟨S8x2048x2x16x64, .f32⟩
  | .hbm, ⟨33, _⟩ => ⟨S8x2048x1x16x64, .f32⟩
  | .hbm, ⟨34, _⟩ => ⟨S8x2048x3x16x64, .f32⟩
  | .hbm, ⟨35, _⟩ => ⟨S8x2048x3072, .f32⟩
  | .hbm, ⟨36, _⟩ => ⟨S8x512x4x3072, .f32⟩
  | .hbm, ⟨37, _⟩ => ⟨S8x4x512x3072, .f32⟩
  | .hbm, ⟨38, _⟩ => ⟨S8x4x512x3072, .bf16⟩
  | .hbm, ⟨39, _⟩ => ⟨S8x512x2x16x64, .f32⟩
  | .hbm, ⟨40, _⟩ => ⟨S8x512x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel10.lean ====
abbrev S8x2048x1024 : Shape := ⟨3, ![8, 2048, 1024]⟩
abbrev S4x4x1024 : Shape := ⟨3, ![4, 4, 1024]⟩
abbrev S1x1024x9216 : Shape := ⟨3, ![1, 1024, 9216]⟩
abbrev S9216 : Shape := ⟨1, ![9216]⟩
abbrev S_ : Shape := ⟨0, ![]⟩
abbrev S1x1x9216 : Shape := ⟨3, ![1, 1, 9216]⟩
abbrev S1x1x1024 : Shape := ⟨3, ![1, 1, 1024]⟩
abbrev S1024 : Shape := ⟨1, ![1024]⟩
abbrev S1x1024 : Shape := ⟨2, ![1, 1024]⟩
abbrev S8x16x128x3072 : Shape := ⟨4, ![8, 16, 128, 3072]⟩
abbrev S8x2048x2048 : Shape := ⟨3, ![8, 2048, 2048]⟩
abbrev S1x1024x1024 : Shape := ⟨3, ![1, 1024, 1024]⟩
abbrev S1x1024x3072 : Shape := ⟨3, ![1, 1024, 3072]⟩
abbrev S1x16x64x3072 : Shape := ⟨4, ![1, 16, 64, 3072]⟩
abbrev S1x1024x2048 : Shape := ⟨3, ![1, 1024, 2048]⟩
abbrev S4x1024x128 : Shape := ⟨3, ![4, 1024, 128]⟩
abbrev S1024x1024 : Shape := ⟨2, ![1024, 1024]⟩
abbrev S1024x1 : Shape := ⟨2, ![1024, 1]⟩
abbrev S1x1024x256 : Shape := ⟨3, ![1, 1024, 256]⟩
abbrev S1024x256 : Shape := ⟨2, ![1024, 256]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 44
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S4x4x1024, .f32⟩
  | .hbm, ⟨2, _⟩ => ⟨S1x1024x9216, .f32⟩
  | .hbm, ⟨3, _⟩ => ⟨S9216, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S9216, .i32⟩
  | .hbm, ⟨11, _⟩ => ⟨S9216, .i32⟩
  | .hbm, ⟨12, _⟩ => ⟨S_, .i32⟩
  | .hbm, ⟨13, _⟩ => ⟨S9216, .i32⟩
  | .hbm, ⟨14, _⟩ => ⟨S9216, .i1⟩
  | .hbm, ⟨15, _⟩ => ⟨S_, .i32⟩
  | .hbm, ⟨16, _⟩ => ⟨S9216, .i32⟩
  | .hbm, ⟨17, _⟩ => ⟨S9216, .i1⟩
  | .hbm, ⟨18, _⟩ => ⟨S_, .i32⟩
  | .hbm, ⟨19, _⟩ => ⟨S_, .i1⟩
  | .hbm, ⟨20, _⟩ => ⟨S9216, .i1⟩
  | .hbm, ⟨21, _⟩ => ⟨S9216, .i1⟩
  | .hbm, ⟨22, _⟩ => ⟨S9216, .i1⟩
  | .hbm, ⟨23, _⟩ => ⟨S9216, .i32⟩
  | .hbm, ⟨24, _⟩ => ⟨S9216, .i32⟩
  | .hbm, ⟨25, _⟩ => ⟨S9216, .i32⟩
  | .hbm, ⟨26, _⟩ => ⟨S_, .i32⟩
  | .hbm, ⟨27, _⟩ => ⟨S9216, .i32⟩
  | .hbm, ⟨28, _⟩ => ⟨S9216, .i1⟩
  | .hbm, ⟨29, _⟩ => ⟨S_, .f32⟩
  | .hbm, ⟨30, _⟩ => ⟨S_, .f32⟩
  | .hbm, ⟨31, _⟩ => ⟨S9216, .f32⟩
  | .hbm, ⟨32, _⟩ => ⟨S9216, .f32⟩
  | .hbm, ⟨33, _⟩ => ⟨S9216, .f32⟩
  | .hbm, ⟨34, _⟩ => ⟨S9216, .f32⟩
  | .hbm, ⟨35, _⟩ => ⟨S1x1x9216, .f32⟩
  | .hbm, ⟨36, _⟩ => ⟨S1x1024x9216, .f32⟩
  | .hbm, ⟨37, _⟩ => ⟨S1x1024x9216, .f32⟩
  | .hbm, ⟨38, _⟩ => ⟨S1x1x1024, .f32⟩
  | .hbm, ⟨39, _⟩ => ⟨S1024, .f32⟩
  | .hbm, ⟨40, _⟩ => ⟨S1x1024, .f32⟩
  | .hbm, ⟨41, _⟩ => ⟨S1x1024x9216, .bf16⟩
  | .hbm, ⟨42, _⟩ => ⟨S8x16x128x3072, .bf16⟩
  | .hbm, ⟨43, _⟩ => ⟨S8x2048x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x16x64x3072, .bf16⟩
  | .local _ .vmem, ⟨5, _⟩ => ⟨S1x16x64x3072, .bf16⟩
  | .local _ .vmem, ⟨6, _⟩ => ⟨S1x1024x2048, .f32⟩
  | .local _ .vmem, ⟨7, _⟩ => ⟨S1x1024x2048, .f32⟩
  | .local _ .vmem, ⟨8, _⟩ => ⟨S4x1024x128, .f32⟩
  | .local _ .vmem, ⟨9, _⟩ => ⟨S4x1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13_0 : Ref sig .tc := ⟨.hbm, 42, rfl⟩
abbrev main_v13_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x64x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8x2048x1024 : Shape := ⟨3, ![8, 2048, 1024]⟩
abbrev S4x4x1024 : Shape := ⟨3, ![4, 4, 1024]⟩
abbrev S1x1024x9216 : Shape := ⟨3, ![1, 1024, 9216]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x9216 : Shape := ⟨2, ![1024, 9216]⟩
abbrev S8x2048x9216 : Shape := ⟨3, ![8, 2048, 9216]⟩
abbrev S8x2048x3x3x16x64 : Shape := ⟨6, ![8, 2048, 3, 3, 16, 64]⟩
abbrev S8x2048x1x1x16x64 : Shape := ⟨6, ![8, 2048, 1, 1, 16, 64]⟩
abbrev S8x2048x16x64 : Shape := ⟨4, ![8, 2048, 16, 64]⟩
abbrev S8x2048x1x2x16x64 : Shape := ⟨6, ![8, 2048, 1, 2, 16, 64]⟩
abbrev S8x2048x2x16x64 : Shape := ⟨5, ![8, 2048, 2, 16, 64]⟩
abbrev S8x2048x1x16x64 : Shape := ⟨5, ![8, 2048, 1, 16, 64]⟩
abbrev S8x2048x3x16x64 : Shape := ⟨5, ![8, 2048, 3, 16, 64]⟩
abbrev S8x2048x3072 : Shape := ⟨3, ![8, 2048, 3072]⟩
abbrev S8x128x16x3072 : Shape := ⟨4, ![8, 128, 16, 3072]⟩
abbrev S8x16x128x3072 : Shape := ⟨4, ![8, 16, 128, 3072]⟩
abbrev S8x2048x2048 : Shape := ⟨3, ![8, 2048, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x4x1024, .f32⟩
  | .hbm, ⟨2, _⟩ => ⟨S1x1024x9216, .f32⟩
  | .hbm, ⟨3, _⟩ => ⟨S1x4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x9216, .f32⟩
  | .hbm, ⟨24, _⟩ => ⟨S8x2048x9216, .f32⟩
  | .hbm, ⟨25, _⟩ => ⟨S8x2048x3x3x16x64, .f32⟩
  | .hbm, ⟨26, _⟩ => ⟨S8x2048x1x1x16x64, .f32⟩
  | .hbm, ⟨27, _⟩ => ⟨S8x2048x16x64, .f32⟩
  | .hbm, ⟨28, _⟩ => ⟨S_, .f32⟩
  | .hbm, ⟨29, _⟩ => ⟨S8x2048x16x64, .f32⟩
  | .hbm, ⟨30, _⟩ => ⟨S8x2048x16x64, .f32⟩
  | .hbm, ⟨31, _⟩ => ⟨S8x2048x1x2x16x64, .f32⟩
  | .hbm, ⟨32, _⟩ => ⟨S8x2048x2x16x64, .f32⟩
  | .hbm, ⟨33, _⟩ => ⟨S8x2048x1x16x64, .f32⟩
  | .hbm, ⟨34, _⟩ => ⟨S8x2048x3x16x64, .f32⟩
  | .hbm, ⟨35, _⟩ => ⟨S8x2048x3072, .f32⟩
  | .hbm, ⟨36, _⟩ => ⟨S8x128x16x3072, .f32⟩
  | .hbm, ⟨37, _⟩ => ⟨S8x16x128x3072, .f32⟩
  | .hbm, ⟨38, _⟩ => ⟨S8x16x128x3072, .bf16⟩
  | .hbm, ⟨39, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Proof.FfnRows.lean ====
module

public import Idealize.ShloMosaic.Lib.Pointwise

@[expose] public section

noncomputable section

namespace Cert.Rows

open Idealize.ShloMosaic

/-- A row times a matrix. -/
def times {K N : ℕ} (a : Fin K → EReal) (w : Fin K → Fin N → EReal) : Fin N → EReal :=
  fun j => ∑ k, a k * w k j

/-- The root-mean-square norm of a row of 1024 numbers, with its gains. -/
def rms (f g : Fin 1024 → EReal) : Fin 1024 → EReal := fun j =>
  f j * Ideal.rsqrt (Ideal.div (∑ x, f x * f x) (Ideal.ofBits .f32 0x44800000#32)
    + Ideal.ofBits .f32 0x358637BD#32) * g j

/-- The row the mixer leaves: the residual plus the normed projection of the mixer's row. -/
def mixed {K : ℕ} (x : Fin 1024 → EReal) (a : Fin K → EReal) (w : Fin K → Fin 1024 → EReal) (g : Fin 1024 → EReal) :
    Fin 1024 → EReal := fun j => x j + rms (times a w) g j

/-- The hidden row of the feed-forward layer: a gate through silu times the other half of the projection. -/
def hidRow (n : Fin 1024 → EReal) (w : Fin 1024 → Fin 5632 → EReal) : Fin 2816 → EReal := fun j =>
  times n w ⟨j.val, by omega⟩ * Ideal.logistic (times n w ⟨j.val, by omega⟩) * times n w ⟨2816 + j.val, by omega⟩

/-- The feed-forward layer on one row: the residual plus the normed projection of the hidden row. -/
def ffn (x g : Fin 1024 → EReal) (wi : Fin 1024 → Fin 5632 → EReal) (wo : Fin 2816 → Fin 1024 → EReal)
    (g' : Fin 1024 → EReal) : Fin 1024 → EReal := fun j =>
  x j + rms (times (hidRow (rms x g) wi) wo) g' j

end Cert.Rows

end
-- ==== Proof.FfnRef.lean ====
module

public import proofs.«01_k».proof.Proof.Gen.Reference2Ideal.Read
public import proofs.«01_k».proof.Proof.FfnRows
public import Idealize.ShloMosaic.Lib.Pipeline.ValueKit

@[expose] public section

set_option maxRecDepth 16384

noncomputable section

namespace Cert.Reference2Ideal.Ffn

open Cert.Reference2Ideal Cert.Reference2Ideal.Gen Cert.Reference2Ideal.Read Cert.Rows Idealize.ShloMosaic

variable (x0 : FVec Ideal S16384x1024 .f32) (x1 : FVec Ideal S16384x2048 .bf16) (x2 : FVec Ideal S2x2048x1024 .f32)
  (x3 : FVec Ideal S4x4x1024 .f32) (x4 : FVec Ideal S4x1024x5632 .f32) (x5 : FVec Ideal S4x2816x1024 .f32)

/-- Row `r` after the mixer, of the reference's arguments. -/
def MIXED (r : Fin 16384) : Fin 1024 → EReal :=
  mixed (fun j => x0 (ix2 r j)) (fun k => x1 (ix2 r k)) (fun k j => x2 (ix3 1 k j)) (fun j => x3 (ix3 3 1 j))

/-- Row `r` of the result, of the reference's arguments. -/
def OUT (r : Fin 16384) : Fin 1024 → EReal :=
  ffn (MIXED x0 x1 x2 x3 r) (fun j => x3 (ix3 3 2 j)) (fun k j => x4 (ix3 3 k j)) (fun k j => x5 (ix3 3 k j))
    (fun j => x3 (ix3 3 3 j))

theorem mixed_eq (y : S16384x1024.Idx) : val_main_v21 (F := Ideal) x0 x1 x2 x3 y = MIXED x0 x1 x2 x3 (y 0) (y 1) := by
  pointwise [val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_cst, val_main_cst_0, val_main_cst_1,
    val_main_v1, val_main_v0, MIXED, mixed, rms, times]

theorem normed_eq (y : S16384x1024.Idx) : val_main_v36 (F := Ideal) x0 x1 x2 x3 y
    = rms (MIXED x0 x1 x2 x3 (y 0)) (fun j => x3 (ix3 3 2 j)) (y 1) := by
  pointwise [val_main_v36, val_main_v35, val_main_v34, val_main_v33, val_main_v32, val_main_v31, val_main_v30,
    val_main_v29, val_main_v28, val_main_v27, val_main_v26, val_main_v25, val_main_v24, val_main_v23, val_main_v22,
    val_main_cst_2, val_main_cst_3, val_main_cst_4, val_main_v1, val_main_v0, rms, mixed_eq]

theorem hidden_eq (y : S16384x2816.Idx) : val_main_v45 (F := Ideal) x0 x1 x2 x3 x4 y
    = hidRow (rms (MIXED x0 x1 x2 x3 (y 0)) (fun j => x3 (ix3 3 2 j))) (fun k j => x4 (ix3 3 k j)) (y 1) := by
  pointwise [val_main_v45, val_main_v44, val_main_v43, val_main_v42, val_main_v41, val_main_v38, val_main_v37,
    val_main_call0_v5, val_main_call0_v4, val_main_call0_v3, val_main_call0_v2, val_main_call0_v1, val_main_call0_v0,
    val_main_call0_cst, val_main_call0_cst_0, hidRow, times, normed_eq,
    Ideal.logistic]

theorem out_eq (y : S16384x1024.Idx) : val_main_v62 (F := Ideal) x0 x1 x2 x3 x4 x5 y
    = OUT x0 x1 x2 x3 x4 x5 (y 0) (y 1) := by
  pointwise [val_main_v62, val_main_v61, val_main_v60, val_main_v59, val_main_v58, val_main_v57, val_main_v56,
    val_main_v55, val_main_v54, val_main_v53, val_main_v52, val_main_v51, val_main_v50, val_main_v49, val_main_v48,
    val_main_v47, val_main_v46, val_main_v40, val_main_v39, val_main_cst_5, val_main_cst_6, val_main_cst_7,
    val_main_v1, val_main_v0, OUT, ffn, rms, times, mixed_eq, hidden_eq]

end Cert.Reference2Ideal.Ffn

end
-- ==== Proof.Ffn.lean ====
module

public import proofs.«01_k».proof.Proof.Gen.Kernel2Ideal.Value
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Rows

variable (m : (ℓ : Loc nD τ sig) → Buf (Elt Ideal) ℓ)

/-- Where every window's block sits at a grid point. -/
theorem idx_val : ∀ t : Fin cfg0.N, t.val < 32 ∧ win0_0.index t = ![t.val, 0] ∧ win0_1.index t = ![0, 0]
    ∧ win0_2.index t = ![3, 0, 0] ∧ win0_3.index t = ![3, 0, 0] ∧ win0_4.index t = ![0, 0]
    ∧ win0_5.index t = ![t.val, 0] ∧ win0_6.index t = ![1, 0, 0] ∧ win0_7.index t = ![0, 0]
    ∧ win0_8.index t = ![t.val, 0] :=
  (by decide +kernel : ∀ t : Fin grid0.N, _)

section
variable (X : FVec Ideal S512x1024 .f32) (A : FVec Ideal S512x2048 .bf16) (W : FVec Ideal S1x2048x1024 .bf16)
  (G1 G2 G3 : FVec Ideal S1x1024 .f32) (WI : FVec Ideal S1x1024x5632 .bf16) (WO : FVec Ideal S1x2816x1024 .bf16)

/-- Row `i` of a grid point's block after the mixer. -/
def MIX (i : Fin 512) : Fin 1024 → EReal :=
  mixed (fun j => X (ix2 i j)) (fun k => A (ix2 i k)) (fun k j => W (ix3 0 k j)) (fun j => G1 (ix2 0 j))

theorem mix_eq (y : S512x1024.Idx) : k0_pay3 (F := Ideal) X A W G1 y = MIX X A W G1 (y 0) (y 1) := by
  pointwise [k0_pay3, MIX, mixed, rms, times]

theorem normed_eq (y : S512x1024.Idx) : k0_pay4 (F := Ideal) X A W G1 G2 y
    = rms (MIX X A W G1 (y 0)) (fun j => G2 (ix2 0 j)) (y 1) := by
  pointwise [k0_pay4, rms, mix_eq]

/-- Row `i` of the hidden block. -/
def HID (N : FVec Ideal S512x1024 .bf16) (z : S512x2816.Idx) : EReal :=
  hidRow (fun j => N (ix2 (z 0) j)) (fun k j => WI (ix3 0 k j)) (z 1)

/-- The last payload once the hidden block is known. -/
theorem out_of (H : FVec Ideal S512x2816 .bf16) (hH : ∀ z, H z = HID WI (k0_pay4 (F := Ideal) X A W G1 G2) z)
    (y : S512x1024.Idx) : k0_pay2 (F := Ideal) (k0_pay3 (F := Ideal) X A W G1) H WO G3 y
    = ffn (MIX X A W G1 (y 0)) (fun j => G2 (ix2 0 j)) (fun k j => WI (ix3 0 k j)) (fun k j => WO (ix3 0 k j))
        (fun j => G3 (ix2 0 j)) (y 1) := by
  have h : H = HID WI (k0_pay4 (F := Ideal) X A W G1 G2) := funext hH
  subst h
  pointwise [k0_pay2, mix_eq, ffn, rms, times, HID, normed_eq]
  rfl

end

/-- What a grid point leaves in the output block, row by row. -/
theorem block_eq (c : Dev nD) (t : Fin cfg0.N) (y : S512x1024.Idx) : outsAt0 (F := Ideal) m c t y
    = ffn (MIX (iblk m c 0 t) (iblk m c 5 t) (iblk m c 6 t) (iblk m c 7 t) (y 0)) (fun j => iblk m c 1 t (ix2 0 j))
        (fun k j => iblk m c 2 t (ix3 0 k j)) (fun k j => iblk m c 3 t (ix3 0 k j))
        (fun j => iblk m c 4 t (ix2 0 j)) (y 1) := by
  unfold outsAt0
  frame_out
  refine out_of _ _ _ _ _ _ _ _ _ (fun z => ?_) y
  generalize k0_pay4 (F := Ideal) _ _ _ _ _ = N
  generalize iblk m c 2 t = WI
  rw [View.readCov_eq_canon']
  have e : ∀ j : S512x2816.Idx, (Rect.unit (s := S512x2816) ![0, 0] ![512, 2816] inb_S512x2816_S512x2816_0_0).idx j = j :=
    fun j => funext fun a => Fin.ext (by rw [Rect.idx_unit_val]; fin_cases a <;> exact Nat.zero_add _)
  refine (congrArg (View.canon _) (e z)).trans ?_
  canon_tiles x h
  all_goals (open_payloads; pointwise [HID, hidRow, times, h0, h1]; blk_point [])

open Cert.Reference2Ideal.Ffn in
/-- The array after the run is the reference's rows. -/
theorem final (c : Dev nD) : (dats m 0 c).arrAt 8 cfg0.N = fun y : S16384x1024.Idx =>
    OUT (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) := by
  refine (dats m 0 c).arrAt_eq_of_covers 8 _ (by decide +kernel) fun t _ y => ?_
  blk_simp
  rw [after0_8, block_eq]
  pointwise [MIX, OUT, MIXED, mixed, ffn, rms, times, hidRow]
  blk_point [iblk, V, idx_val t]

end Cert.Kernel2Ideal.Ffn

end
-- ==== Proof.Ffn4Ref.lean ====
module

public import proofs.«01_k».proof.Proof.Gen.Reference4Ideal.Read
public import proofs.«01_k».proof.Proof.FfnRows
public import Idealize.ShloMosaic.Lib.Pipeline.ValueKit

@[expose] public section

set_option maxRecDepth 16384

noncomputable section

namespace Cert.Reference4Ideal.Ffn

open Cert.Reference4Ideal Cert.Reference4Ideal.Gen Cert.Reference4Ideal.Read Cert.Rows Idealize.ShloMosaic

variable (x0 : FVec Ideal S16384x1024 .f32) (x1 : FVec Ideal S16384x1024 .bf16) (x2 : FVec Ideal S1x1024x1024 .f32)
  (x3 : FVec Ideal S4x4x1024 .f32) (x4 : FVec Ideal S4x1024x5632 .f32) (x5 : FVec Ideal S4x2816x1024 .f32)

/-- Row `r` after the mixer, of the reference's arguments. -/
def MIXED (r : Fin 16384) : Fin 1024 → EReal :=
  mixed (fun j => x0 (ix2 r j)) (fun k => x1 (ix2 r k)) (fun k j => x2 (ix3 0 k j)) (fun j => x3 (ix3 2 1 j))

/-- Row `r` of the result, of the reference's arguments. -/
def OUT (r : Fin 16384) : Fin 1024 → EReal :=
  ffn (MIXED x0 x1 x2 x3 r) (fun j => x3 (ix3 2 2 j)) (fun k j => x4 (ix3 2 k j)) (fun k j => x5 (ix3 2 k j))
    (fun j => x3 (ix3 2 3 j))

theorem mixed_eq (y : S16384x1024.Idx) : val_main_v20 (F := Ideal) x0 x1 x2 x3 y = MIXED x0 x1 x2 x3 (y 0) (y 1) := by
  pointwise [val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_cst, val_main_cst_0, val_main_cst_1,
    val_main_v1, val_main_v0, MIXED, mixed, rms, times]

theorem normed_eq (y : S16384x1024.Idx) : val_main_v35 (F := Ideal) x0 x1 x2 x3 y
    = rms (MIXED x0 x1 x2 x3 (y 0)) (fun j => x3 (ix3 2 2 j)) (y 1) := by
  pointwise [val_main_v35, val_main_v34, val_main_v33, val_main_v32, val_main_v31, val_main_v30, val_main_v29,
    val_main_v28, val_main_v27, val_main_v26, val_main_v25, val_main_v24, val_main_v23, val_main_v22, val_main_v21,
    val_main_cst_2, val_main_cst_3, val_main_cst_4, val_main_v1, val_main_v0, rms, mixed_eq]

theorem hidden_eq (y : S16384x2816.Idx) : val_main_v44 (F := Ideal) x0 x1 x2 x3 x4 y
    = hidRow (rms (MIXED x0 x1 x2 x3 (y 0)) (fun j => x3 (ix3 2 2 j))) (fun k j => x4 (ix3 2 k j)) (y 1) := by
  pointwise [val_main_v44, val_main_v43, val_main_v42, val_main_v41, val_main_v40, val_main_v37, val_main_v36,
    val_main_call0_v5, val_main_call0_v4, val_main_call0_v3, val_main_call0_v2, val_main_call0_v1, val_main_call0_v0,
    val_main_call0_cst, val_main_call0_cst_0, hidRow, times, normed_eq,
    Ideal.logistic]

theorem out_eq (y : S16384x1024.Idx) : val_main_v61 (F := Ideal) x0 x1 x2 x3 x4 x5 y
    = OUT x0 x1 x2 x3 x4 x5 (y 0) (y 1) := by
  pointwise [val_main_v61, val_main_v60, val_main_v59, val_main_v58, val_main_v57, val_main_v56, val_main_v55,
    val_main_v54, val_main_v53, val_main_v52, val_main_v51, val_main_v50, val_main_v49, val_main_v48, val_main_v47,
    val_main_v46, val_main_v45, val_main_v39, val_main_v38, val_main_cst_5, val_main_cst_6, val_main_cst_7,
    val_main_v1, val_main_v0, OUT, ffn, rms, times, mixed_eq, hidden_eq]

end Cert.Reference4Ideal.Ffn

end
-- ==== Proof.Ffn4.lean ====
module

public import proofs.«01_k».proof.Proof.Gen.Kernel4Ideal.Value
public import proofs.«01_k».proof.Proof.Ffn4Ref

@[expose] public section

set_option maxRecDepth 16384

noncomputable section

open Idealize.ShloMosaic Idealize.ShloMosaic.TcCoe Idealize.SL.Sem
open Idealize.ShloMosaic.Pipeline (Dat)

namespace Cert.Kernel4Ideal.Ffn

open Cert.Kernel4Ideal Cert.Kernel4Ideal.Gen Cert.Rows

variable (m : (ℓ : Loc nD τ sig) → Buf (Elt Ideal) ℓ)

/-- Where every window's block sits at a grid point. -/
theorem idx_val : ∀ t : Fin cfg0.N, t.val < 32 ∧ win0_0.index t = ![t.val, 0] ∧ win0_1.index t = ![0, 0]
    ∧ win0_2.index t = ![2, 0, 0] ∧ win0_3.index t = ![2, 0, 0] ∧ win0_4.index t = ![0, 0]
    ∧ win0_5.index t = ![t.val, 0] ∧ win0_6.index t = ![0, 0, 0] ∧ win0_7.index t = ![0, 0]
    ∧ win0_8.index t = ![t.val, 0] :=
  (by decide +kernel : ∀ t : Fin grid0.N, _)

section
variable (X : FVec Ideal S512x1024 .f32) (A : FVec Ideal S512x1024 .bf16) (W : FVec Ideal S1x1024x1024 .bf16)
  (G1 G2 G3 : FVec Ideal S1x1024 .f32) (WI : FVec Ideal S1x1024x5632 .bf16) (WO : FVec Ideal S1x2816x1024 .bf16)

/-- Row `i` of a grid point's block after the mixer. -/
def MIX (i : Fin 512) : Fin 1024 → EReal :=
  mixed (fun j => X (ix2 i j)) (fun k => A (ix2 i k)) (fun k j => W (ix3 0 k j)) (fun j => G1 (ix2 0 j))

theorem mix_eq (y : S512x1024.Idx) : k0_pay3 (F := Ideal) X A W G1 y = MIX X A W G1 (y 0) (y 1) := by
  pointwise [k0_pay3, MIX, mixed, rms, times]

theorem normed_eq (y : S512x1024.Idx) : k0_pay4 (F := Ideal) X A W G1 G2 y
    = rms (MIX X A W G1 (y 0)) (fun j => G2 (ix2 0 j)) (y 1) := by
  pointwise [k0_pay4, rms, mix_eq]

/-- Row `i` of the hidden block. -/
def HID (N : FVec Ideal S512x1024 .bf16) (z : S512x2816.Idx) : EReal :=
  hidRow (fun j => N (ix2 (z 0) j)) (fun k j => WI (ix3 0 k j)) (z 1)

/-- The last payload once the hidden block is known. -/
theorem out_of (H : FVec Ideal S512x2816 .bf16) (hH : ∀ z, H z = HID WI (k0_pay4 (F := Ideal) X A W G1 G2) z)
    (y : S512x1024.Idx) : k0_pay2 (F := Ideal) (k0_pay3 (F := Ideal) X A W G1) H WO G3 y
    = ffn (MIX X A W G1 (y 0)) (fun j => G2 (ix2 0 j)) (fun k j => WI (ix3 0 k j)) (fun k j => WO (ix3 0 k j))
        (fun j => G3 (ix2 0 j)) (y 1) := by
  have h : H = HID WI (k0_pay4 (F := Ideal) X A W G1 G2) := funext hH
  subst h
  pointwise [k0_pay2, mix_eq, ffn, rms, times, HID, normed_eq]
  rfl

end

/-- What a grid point leaves in the output block, row by row. -/
theorem block_eq (c : Dev nD) (t : Fin cfg0.N) (y : S512x1024.Idx) : outsAt0 (F := Ideal) m c t y
    = ffn (MIX (iblk m c 0 t) (iblk m c 5 t) (iblk m c 6 t) (iblk m c 7 t) (y 0)) (fun j => iblk m c 1 t (ix2 0 j))
        (fun k j => iblk m c 2 t (ix3 0 k j)) (fun k j => iblk m c 3 t (ix3 0 k j))
        (fun j => iblk m c 4 t (ix2 0 j)) (y 1) := by
  unfold outsAt0
  frame_out
  refine out_of _ _ _ _ _ _ _ _ _ (fun z => ?_) y
  generalize k0_pay4 (F := Ideal) _ _ _ _ _ = N
  generalize iblk m c 2 t = WI
  rw [View.readCov_eq_canon']
  have e : ∀ j : S512x2816.Idx, (Rect.unit (s := S512x2816) ![0, 0] ![512, 2816] inb_S512x2816_S512x2816_0_0).idx j = j :=
    fun j => funext fun a => Fin.ext (by rw [Rect.idx_unit_val]; fin_cases a <;> exact Nat.zero_add _)
  refine (congrArg (View.canon _) (e z)).trans ?_
  canon_tiles x h
  all_goals (open_payloads; pointwise [HID, hidRow, times, h0, h1]; blk_point [])

open Cert.Reference4Ideal.Ffn in
/-- The array after the run is the reference's rows. -/
theorem final (c : Dev nD) : (dats m 0 c).arrAt 8 cfg0.N = fun y : S16384x1024.Idx =>
    OUT (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) := by
  refine (dats m 0 c).arrAt_eq_of_covers 8 _ (by decide +kernel) fun t _ y => ?_
  blk_simp
  rw [after0_8, block_eq]
  pointwise [MIX, OUT, MIXED, mixed, ffn, rms, times, hidRow]
  blk_point [iblk, V, idx_val t]

end Cert.Kernel4Ideal.Ffn

end
-- ==== Proof.Ffn5Ref.lean ====
module

public import proofs.«01_k».proof.Proof.Gen.Reference5Ideal.Read
public import proofs.«01_k».proof.Proof.FfnRows
public import Idealize.ShloMosaic.Lib.Pipeline.ValueKit

@[expose] public section

set_option maxRecDepth 16384

noncomputable section

namespace Cert.Reference5Ideal.Ffn

open Cert.Reference5Ideal Cert.Reference5Ideal.Gen Cert.Reference5Ideal.Read Cert.Rows Idealize.ShloMosaic

variable (x0 : FVec Ideal S16384x1024 .f32) (x1 : FVec Ideal S4x4x1024 .f32) (x2 : FVec Ideal S4x1024x5632 .f32)
  (x3 : FVec Ideal S4x2816x1024 .f32)

/-- Row `r` of the result, of the reference's arguments. -/
def OUT (r : Fin 16384) : Fin 1024 → EReal :=
  ffn (fun j => x0 (ix2 r j)) (fun j => x1 (ix3 1 2 j)) (fun k j => x2 (ix3 1 k j)) (fun k j => x3 (ix3 1 k j))
    (fun j => x1 (ix3 1 3 j))

theorem normed_eq (y : S16384x1024.Idx) : val_main_v16 (F := Ideal) x0 x1 y
    = rms (fun j => x0 (ix2 (y 0) j)) (fun j => x1 (ix3 1 2 j)) (y 1) := by
  pointwise [val_main_v16, val_main_v15, val_main_v14, val_main_v13, val_main_v12, val_main_v11, val_main_v10,
    val_main_v9, val_main_v8, val_main_v7, val_main_v6, val_main_v5, val_main_v4, val_main_v3, val_main_v2,
    val_main_cst, val_main_cst_0, val_main_cst_1, val_main_v1, val_main_v0, rms]

theorem hidden_eq (y : S16384x2816.Idx) : val_main_v25 (F := Ideal) x0 x1 x2 y
    = hidRow (rms (fun j => x0 (ix2 (y 0) j)) (fun j => x1 (ix3 1 2 j))) (fun k j => x2 (ix3 1 k j)) (y 1) := by
  pointwise [val_main_v25, val_main_v24, val_main_v23, val_main_v22, val_main_v21, val_main_v18, val_main_v17,
    val_main_call0_v5, val_main_call0_v4, val_main_call0_v3, val_main_call0_v2, val_main_call0_v1, val_main_call0_v0,
    val_main_call0_cst, val_main_call0_cst_0, hidRow, times, normed_eq,
    Ideal.logistic]

theorem out_eq (y : S16384x1024.Idx) : val_main_v42 (F := Ideal) x0 x1 x2 x3 y
    = OUT x0 x1 x2 x3 (y 0) (y 1) := by
  pointwise [val_main_v42, val_main_v41, val_main_v40, val_main_v39, val_main_v38, val_main_v37, val_main_v36,
    val_main_v35, val_main_v34, val_main_v33, val_main_v32, val_main_v31, val_main_v30, val_main_v29, val_main_v28,
    val_main_v27, val_main_v26, val_main_v20, val_main_v19, val_main_cst_2, val_main_cst_3, val_main_cst_4,
    val_main_v1, val_main_v0, OUT, ffn, rms, times, hidden_eq]

end Cert.Reference5Ideal.Ffn

end
-- ==== Proof.Ffn5.lean ====
module

public import proofs.«01_k».proof.Proof.Gen.Kernel5Ideal.Value
public import proofs.«01_k».proof.Proof.Ffn5Ref

@[expose] public section

set_option maxRecDepth 16384

noncomputable section

open Idealize.ShloMosaic Idealize.ShloMosaic.TcCoe Idealize.SL.Sem
open Idealize.ShloMosaic.Pipeline (Dat)

namespace Cert.Kernel5Ideal.Ffn

open Cert.Kernel5Ideal Cert.Kernel5Ideal.Gen Cert.Rows

variable (m : (ℓ : Loc nD τ sig) → Buf (Elt Ideal) ℓ)

/-- Where every window's block sits at a grid point. -/
theorem idx_val : ∀ t : Fin cfg0.N, t.val < 16 ∧ win0_0.index t = ![t.val, 0] ∧ win0_1.index t = ![0, 0]
    ∧ win0_2.index t = ![1, 0, 0] ∧ win0_3.index t = ![1, 0, 0] ∧ win0_4.index t = ![0, 0]
    ∧ win0_5.index t = ![t.val, 0] :=
  (by decide +kernel : ∀ t : Fin grid0.N, _)

section
variable (X : FVec Ideal S1024x1024 .f32) (G2 G3 : FVec Ideal S1x1024 .f32) (WI : FVec Ideal S1x1024x5632 .bf16)
  (WO : FVec Ideal S1x2816x1024 .bf16)

theorem normed_eq (y : S1024x1024.Idx) : k0_pay2 (F := Ideal) X G2 y
    = rms (fun j => X (ix2 (y 0) j)) (fun j => G2 (ix2 0 j)) (y 1) := by
  pointwise [k0_pay2, rms]

/-- Row `i` of the hidden block. -/
def HID (N : FVec Ideal S1024x1024 .bf16) (z : S1024x2816.Idx) : EReal :=
  hidRow (fun j => N (ix2 (z 0) j)) (fun k j => WI (ix3 0 k j)) (z 1)

/-- The last payload once the hidden block is known. -/
theorem out_of (H : FVec Ideal S1024x2816 .bf16) (hH : ∀ z, H z = HID WI (k0_pay2 (F := Ideal) X G2) z)
    (y : S1024x1024.Idx) : k0_pay1 (F := Ideal) X (k0_pay18 (F := Ideal) H WO) G3 y
    = ffn (fun j => X (ix2 (y 0) j)) (fun j => G2 (ix2 0 j)) (fun k j => WI (ix3 0 k j)) (fun k j => WO (ix3 0 k j))
        (fun j => G3 (ix2 0 j)) (y 1) := by
  have h : H = HID WI (k0_pay2 (F := Ideal) X G2) := funext hH
  subst h
  pointwise [k0_pay1, k0_pay18, ffn, rms, times, HID, normed_eq]
  rfl

/-- The first tile's payload is that of the other tiles. -/
theorem pay3_eq (a b : FVec Ideal S1x1024x256 .bf16) :
    k0_pay3 (F := Ideal) X G2 a b = k0_pay7 (F := Ideal) (k0_pay2 (F := Ideal) X G2) a b := rfl

/-- The second tile's gate is that of the other tiles. -/
theorem pay4_eq (a : FVec Ideal S1x1024x256 .bf16) :
    k0_pay4 (F := Ideal) X G2 a = k0_pay11 (F := Ideal) (k0_pay2 (F := Ideal) X G2) a := rfl

end

/-- What a grid point leaves in the output block, row by row. -/
theorem block_eq (c : Dev nD) (t : Fin cfg0.N) (y : S1024x1024.Idx) : outsAt0 (F := Ideal) m c t y
    = ffn (fun j => iblk m c 0 t (ix2 (y 0) j)) (fun j => iblk m c 1 t (ix2 0 j))
        (fun k j => iblk m c 2 t (ix3 0 k j)) (fun k j => iblk m c 3 t (ix3 0 k j))
        (fun j => iblk m c 4 t (ix2 0 j)) (y 1) := by
  unfold outsAt0
  frame_out
  refine out_of _ _ _ _ _ _ (fun z => ?_) y
  rw [pay3_eq, pay4_eq]
  generalize k0_pay2 (F := Ideal) _ _ = N
  generalize iblk m c 2 t = WI
  rw [View.readCov_eq_canon']
  have e : ∀ j : S1024x2816.Idx, (Rect.unit (s := S1024x2816) ![0, 0] ![1024, 2816] inb_S1024x2816_S1024x2816_0_0).idx j = j :=
    fun j => funext fun a => Fin.ext (by rw [Rect.idx_unit_val]; fin_cases a <;> exact Nat.zero_add _)
  refine (congrArg (View.canon _) (e z)).trans ?_
  canon_tiles x h
  all_goals (open_payloads; pointwise [HID, hidRow, times, h0, h1]; blk_point [])

open Cert.Reference5Ideal.Ffn in
/-- The array after the run is the reference's rows. -/
theorem final (c : Dev nD) : (dats m 0 c).arrAt 5 cfg0.N = fun y : S16384x1024.Idx =>
    OUT (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 5 _ (by decide +kernel) fun t _ y => ?_
  blk_simp
  rw [after0_5, block_eq]
  pointwise [OUT, ffn, rms, times, hidRow]
  blk_point [iblk, V, idx_val t]

end Cert.Kernel5Ideal.Ffn

end
-- ==== Proof.Ffn6Ref.lean ====
module

public import proofs.«01_k».proof.Proof.Gen.Reference6Ideal.Read
public import proofs.«01_k».proof.Proof.FfnRows
public import Idealize.ShloMosaic.Lib.Pipeline.ValueKit

@[expose] public section

set_option maxRecDepth 16384

noncomputable section

namespace Cert.Reference6Ideal.Ffn

open Cert.Reference6Ideal Cert.Reference6Ideal.Gen Cert.Reference6Ideal.Read Cert.Rows Idealize.ShloMosaic

variable (x0 : FVec Ideal S128x1024 .f32) (x1 : FVec Ideal S128x2048 .bf16) (x2 : FVec Ideal S2x2048x1024 .f32)
  (x3 : FVec Ideal S4x4x1024 .f32) (x4 : FVec Ideal S4x1024x5632 .f32) (x5 : FVec Ideal S4x2816x1024 .f32)

/-- Row `r` after the mixer, of the reference's arguments. -/
def MIXED (r : Fin 128) : Fin 1024 → EReal :=
  mixed (fun j => x0 (ix2 r j)) (fun k => x1 (ix2 r k)) (fun k j => x2 (ix3 1 k j)) (fun j => x3 (ix3 3 1 j))

/-- Row `r` of the result, of the reference's arguments. -/
def OUT (r : Fin 128) : Fin 1024 → EReal :=
  ffn (MIXED x0 x1 x2 x3 r) (fun j => x3 (ix3 3 2 j)) (fun k j => x4 (ix3 3 k j)) (fun k j => x5 (ix3 3 k j))
    (fun j => x3 (ix3 3 3 j))

theorem mixed_eq (y : S128x1024.Idx) : val_main_v21 (F := Ideal) x0 x1 x2 x3 y = MIXED x0 x1 x2 x3 (y 0) (y 1) := by
  pointwise [val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_cst, val_main_cst_0, val_main_cst_1,
    val_main_v1, val_main_v0, MIXED, mixed, rms, times]

theorem normed_eq (y : S128x1024.Idx) : val_main_v36 (F := Ideal) x0 x1 x2 x3 y
    = rms (MIXED x0 x1 x2 x3 (y 0)) (fun j => x3 (ix3 3 2 j)) (y 1) := by
  pointwise [val_main_v36, val_main_v35, val_main_v34, val_main_v33, val_main_v32, val_main_v31, val_main_v30,
    val_main_v29, val_main_v28, val_main_v27, val_main_v26, val_main_v25, val_main_v24, val_main_v23, val_main_v22,
    val_main_cst_2, val_main_cst_3, val_main_cst_4, val_main_v1, val_main_v0, rms, mixed_eq]

theorem hidden_eq (y : S128x2816.Idx) : val_main_v45 (F := Ideal) x0 x1 x2 x3 x4 y
    = hidRow (rms (MIXED x0 x1 x2 x3 (y 0)) (fun j => x3 (ix3 3 2 j))) (fun k j => x4 (ix3 3 k j)) (y 1) := by
  pointwise [val_main_v45, val_main_v44, val_main_v43, val_main_v42, val_main_v41, val_main_v38, val_main_v37,
    val_main_call0_v5, val_main_call0_v4, val_main_call0_v3, val_main_call0_v2, val_main_call0_v1, val_main_call0_v0,
    val_main_call0_cst, val_main_call0_cst_0, hidRow, times, normed_eq,
    Ideal.logistic]

theorem out_eq (y : S128x1024.Idx) : val_main_v62 (F := Ideal) x0 x1 x2 x3 x4 x5 y
    = OUT x0 x1 x2 x3 x4 x5 (y 0) (y 1) := by
  pointwise [val_main_v62, val_main_v61, val_main_v60, val_main_v59, val_main_v58, val_main_v57, val_main_v56,
    val_main_v55, val_main_v54, val_main_v53, val_main_v52, val_main_v51, val_main_v50, val_main_v49, val_main_v48,
    val_main_v47, val_main_v46, val_main_v40, val_main_v39, val_main_cst_5, val_main_cst_6, val_main_cst_7,
    val_main_v1, val_main_v0, OUT, ffn, rms, times, mixed_eq, hidden_eq]

end Cert.Reference6Ideal.Ffn

end
-- ==== Proof.Ffn6.lean ====
module

public import proofs.«01_k».proof.Proof.Gen.Kernel6Ideal.Value
public import proofs.«01_k».proof.Proof.Ffn6Ref

@[expose] public section

set_option maxRecDepth 16384

noncomputable section

open Idealize.ShloMosaic Idealize.ShloMosaic.TcCoe Idealize.SL.Sem
open Idealize.ShloMosaic.Pipeline (Dat)

namespace Cert.Kernel6Ideal.Ffn

open Cert.Kernel6Ideal Cert.Kernel6Ideal.Gen Cert.Rows

variable (m : (ℓ : Loc nD τ sig) → Buf (Elt Ideal) ℓ)

/-- Where every window's block sits at a grid point. -/
theorem idx_val : ∀ t : Fin cfg0.N, t.val < 1 ∧ win0_0.index t = ![t.val, 0] ∧ win0_1.index t = ![0, 0]
    ∧ win0_2.index t = ![3, 0, 0] ∧ win0_3.index t = ![3, 0, 0] ∧ win0_4.index t = ![0, 0]
    ∧ win0_5.index t = ![t.val, 0] ∧ win0_6.index t = ![1, 0, 0] ∧ win0_7.index t = ![0, 0]
    ∧ win0_8.index t = ![t.val, 0] :=
  (by decide +kernel : ∀ t : Fin grid0.N, _)

section
variable (X : FVec Ideal S128x1024 .f32) (A : FVec Ideal S128x2048 .bf16) (W : FVec Ideal S1x2048x1024 .bf16)
  (G1 G2 G3 : FVec Ideal S1x1024 .f32) (WI : FVec Ideal S1x1024x5632 .bf16) (WO : FVec Ideal S1x2816x1024 .bf16)

/-- Row `i` of a grid point's block after the mixer. -/
def MIX (i : Fin 128) : Fin 1024 → EReal :=
  mixed (fun j => X (ix2 i j)) (fun k => A (ix2 i k)) (fun k j => W (ix3 0 k j)) (fun j => G1 (ix2 0 j))

theorem mix_eq (y : S128x1024.Idx) : k0_pay3 (F := Ideal) X A W G1 y = MIX X A W G1 (y 0) (y 1) := by
  pointwise [k0_pay3, MIX, mixed, rms, times]

theorem normed_eq (y : S128x1024.Idx) : k0_pay4 (F := Ideal) X A W G1 G2 y
    = rms (MIX X A W G1 (y 0)) (fun j => G2 (ix2 0 j)) (y 1) := by
  pointwise [k0_pay4, rms, mix_eq]

/-- Row `i` of the hidden block. -/
def HID (N : FVec Ideal S128x1024 .bf16) (z : S128x2816.Idx) : EReal :=
  hidRow (fun j => N (ix2 (z 0) j)) (fun k j => WI (ix3 0 k j)) (z 1)

/-- The last payload once the hidden block is known. -/
theorem out_of (H : FVec Ideal S128x2816 .bf16) (hH : ∀ z, H z = HID WI (k0_pay4 (F := Ideal) X A W G1 G2) z)
    (y : S128x1024.Idx) : k0_pay2 (F := Ideal) (k0_pay3 (F := Ideal) X A W G1) H WO G3 y
    = ffn (MIX X A W G1 (y 0)) (fun j => G2 (ix2 0 j)) (fun k j => WI (ix3 0 k j)) (fun k j => WO (ix3 0 k j))
        (fun j => G3 (ix2 0 j)) (y 1) := by
  have h : H = HID WI (k0_pay4 (F := Ideal) X A W G1 G2) := funext hH
  subst h
  pointwise [k0_pay2, mix_eq, ffn, rms, times, HID, normed_eq]
  rfl

end

/-- What a grid point leaves in the output block, row by row. -/
theorem block_eq (c : Dev nD) (t : Fin cfg0.N) (y : S128x1024.Idx) : outsAt0 (F := Ideal) m c t y
    = ffn (MIX (iblk m c 0 t) (iblk m c 5 t) (iblk m c 6 t) (iblk m c 7 t) (y 0)) (fun j => iblk m c 1 t (ix2 0 j))
        (fun k j => iblk m c 2 t (ix3 0 k j)) (fun k j => iblk m c 3 t (ix3 0 k j))
        (fun j => iblk m c 4 t (ix2 0 j)) (y 1) := by
  unfold outsAt0
  frame_out
  refine out_of _ _ _ _ _ _ _ _ _ (fun z => ?_) y
  generalize k0_pay4 (F := Ideal) _ _ _ _ _ = N
  generalize iblk m c 2 t = WI
  rw [View.readCov_eq_canon']
  have e : ∀ j : S128x2816.Idx, (Rect.unit (s := S128x2816) ![0, 0] ![128, 2816] inb_S128x2816_S128x2816_0_0).idx j = j :=
    fun j => funext fun a => Fin.ext (by rw [Rect.idx_unit_val]; fin_cases a <;> exact Nat.zero_add _)
  refine (congrArg (View.canon _) (e z)).trans ?_
  canon_tiles x h
  all_goals (open_payloads; pointwise [HID, hidRow, times, h0, h1]; blk_point [])

open Cert.Reference6Ideal.Ffn in
/-- The array after the run is the reference's rows. -/
theorem final (c : Dev nD) : (dats m 0 c).arrAt 8 cfg0.N = fun y : S128x1024.Idx =>
    OUT (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) := by
  refine (dats m 0 c).arrAt_eq_of_covers 8 _ (by decide +kernel) fun t _ y => ?_
  blk_simp
  rw [after0_8, block_eq]
  pointwise [MIX, OUT, MIXED, mixed, ffn, rms, times, hidRow]
  blk_point [iblk, V, idx_val t]

end Cert.Kernel6Ideal.Ffn

end
-- ==== Proof.Samp.lean ====
module

public import proofs.«01_k».proof.Proof.Gen.Kernel7Ideal.Frame
public import proofs.«01_k».proof.Proof.Gen.Reference7Ideal.Read
public import proofs.«01_k».proof.Proof.FfnRows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Samp

open Cert.Kernel7Ideal Cert.Kernel7Ideal.Gen Cert.Rows

variable (m : (ℓ : Loc nD τ sig) → Buf (Elt Ideal) ℓ)

/-- Where every window's block sits at the one grid point. -/
theorem idx_val : ∀ t : Fin cfg0.N, t.val < 1 ∧ win0_0.index t = ![t.val, 0] ∧ win0_1.index t = ![0, 0]
    ∧ win0_2.index t = ![0, 0, 0] ∧ win0_3.index t = ![t.val, 0] :=
  (by decide +kernel : ∀ t : Fin grid0.N, _)

/-- The remainders of the columns by a group's 3072 columns, as the host computes them. -/
def REM : IVec S9216 32 :=
  let w := select (cmpi .eq (constantI S_ 32 3072#32) (constantI S_ 32 0#32)) (constantI S_ 32 1#32) (constantI S_ 32 3072#32)
  let r := Host.remsi (iotaInDim S9216 32 0) (broadcastInDim S9216 ![] bcast_S_S9216 w)
  let z := broadcastInDim S9216 ![] bcast_S_S9216 (constantI S_ 32 0#32)
  select (andi (cmpi .ne (cmpi .slt r z) (broadcastInDim S9216 ![] bcast_S_S9216 (cmpi .slt w (constantI S_ 32 0#32))))
    (cmpi .ne r z)) (addi r (broadcastInDim S9216 ![] bcast_S_S9216 w)) r

/-- The factor of every column of the weights. -/
def SCALE : FVec Ideal S9216 .f32 :=
  select (cmpi .slt REM (broadcastInDim S9216 ![] bcast_S_S9216 (constantI S_ 32 1024#32)))
    (broadcastInDim S9216 ![] bcast_S_S9216 (constant S_ .f32 0x3E38AA3B#32))
    (broadcastInDim S9216 ![] bcast_S_S9216 (constant S_ .f32 0x3F800000#32))

/-- A remainder is no negative word, so the correction of its sign keeps it. -/
theorem kept : ∀ n : Fin 3072, Scalar.select (IntOp.andi
      (IntOp.cmpi CmpIPredicate.ne (IntOp.cmpi CmpIPredicate.slt (BitVec.ofNat 32 n.val) 0#32)
        (IntOp.cmpi CmpIPredicate.slt 3072#32 0#32))
      (IntOp.cmpi CmpIPredicate.ne (BitVec.ofNat 32 n.val) 0#32))
    (IntOp.addi (BitVec.ofNat 32 n.val) 3072#32) (BitVec.ofNat 32 n.val) = BitVec.ofNat 32 n.val := by
  decide +kernel

/-- From the 1024th column of a group on, the column is none of its queries'. -/
theorem past : ∀ n : Fin 3072, 1024 ≤ n.val → IntOp.cmpi CmpIPredicate.slt (BitVec.ofNat 32 n.val) 1024#32 = 0#1 := by
  decide +kernel

/-- They are the remainders. -/
theorem rem_eq (y : S9216.Idx) : REM y = BitVec.ofNat 32 ((y 0).val % 3072) := by
  have hn : (y 0).val < 9216 := (y 0).isLt
  have h : IntOp.remsi ArithUnit.host (BitVec.ofNat 32 (y 0).val) (BitVec.ofNat 32 3072)
      = BitVec.ofNat 32 ((y 0).val % 3072) := by
    apply BitVec.eq_of_toNat_eq
    rw [IntOp.toNat_remsi _ (by simp only [BitVec.toNat_ofNat]; omega) 3072 (by decide) (by decide)]
    simp only [BitVec.toNat_ofNat]
    omega
  have hw : Scalar.select (IntOp.cmpi CmpIPredicate.eq 3072#32 0#32) (1#32) (3072#32) = 3072#32 := by decide
  have hr : (y 0).val % 3072 < 3072 := Nat.mod_lt _ (by decide)
  pointwise [REM]
  rw [hw, h]
  exact kept ⟨_, hr⟩

/-- The columns of the keys and values keep their weights. -/
theorem scale_eq (y : S9216.Idx) (h : 1024 ≤ (y 0).val % 3072) : SCALE y = (1 : EReal) := by
  have hr : (y 0).val % 3072 < 3072 := Nat.mod_lt _ (by decide)
  have hs := past ⟨_, hr⟩ h
  pointwise [SCALE]
  rw [rem_eq, hs]
  rfl

/-- The weights the call reads: every column times its factor. -/
theorem weights (c : Dev nD) : (V m c main_v12 : FVec Ideal S1x1024x9216 .bf16)
    = truncf .bf16 (mulf (m ((c : Thread nD τ).loc main_arg2)) (broadcastInDim S1x1024x9216 ![0, 1, 2] bcast_S1x1x9216_S1x1024x9216_0_1_2
        (broadcastInDim S1x1x9216 ![2] bcast_S9216_S1x1x9216_2 SCALE))) bitsLt_bf16_f32 := by
  unfold V V0
  simp only [hostOps0, hostOps0_1, hostOps0_2, hostOps0_3, hostOps0_4, List.flatten_cons, List.flatten_nil, List.append_nil, List.cons_append, List.nil_append]
  after_results
  rfl

/-- The norm the call reads. -/
theorem norm (c : Dev nD) : (V m c main_v11 : FVec Ideal S1x1024 .f32)
    = fun y => (m ((c : Thread nD τ).loc main_arg1) : FVec Ideal S4x4x1024 .f32) (ix3 2 0 (y 1)) := by
  unfold V V0
  simp only [hostOps0, hostOps0_1, hostOps0_2, hostOps0_3, hostOps0_4, List.flatten_cons, List.flatten_nil, List.append_nil, List.cons_append, List.nil_append]
  after_results
  funext y
  pointwise []

/-- The call's array after the lines behind it. -/
theorem tail (c : Dev nD) : Pipeline.withArrays (cfgs 0).spec c (V0 m c) (fun w => (dats m 0 c).arrAt w (cfgs 0).N)
    (Proc.tc.devRef main_v13) = (dats m 0 c).arrAt 3 cfg0.N :=
  Pipeline.withArrays_arr spec0 (by decide) c (V0 m c) _ 3

/-- A group's keys and values as the lines behind the call cut them out of its array. -/
def CUT0 (A : FVec Ideal S128x9216 .f32) : FVec Ideal S128x1x2x16x64 .f32 :=
  shapeCast S128x1x2x16x64 (extractStridedSlice S128x1x1x2x16x64 ![0, 0, 0, 1, 0, 0]
    (shapeCast S128x1x3x3x16x64 A shapeCasts_S128x9216_S128x1x3x3x16x64)
    slices_S128x1x3x3x16x64_S128x1x1x2x16x64_0_0_0_1_0_0) shapeCasts_S128x1x1x2x16x64_S128x1x2x16x64

/-- The second group's. -/
def CUT1 (A : FVec Ideal S128x9216 .f32) : FVec Ideal S128x1x2x16x64 .f32 :=
  shapeCast S128x1x2x16x64 (extractStridedSlice S128x1x1x2x16x64 ![0, 0, 1, 1, 0, 0]
    (shapeCast S128x1x3x3x16x64 A shapeCasts_S128x9216_S128x1x3x3x16x64)
    slices_S128x1x3x3x16x64_S128x1x1x2x16x64_0_0_1_1_0_0) shapeCasts_S128x1x1x2x16x64_S128x1x2x16x64

/-- The third group's. -/
def CUT2 (A : FVec Ideal S128x9216 .f32) : FVec Ideal S128x1x2x16x64 .f32 :=
  shapeCast S128x1x2x16x64 (extractStridedSlice S128x1x1x2x16x64 ![0, 0, 2, 1, 0, 0]
    (shapeCast S128x1x3x3x16x64 A shapeCasts_S128x9216_S128x1x3x3x16x64)
    slices_S128x1x3x3x16x64_S128x1x1x2x16x64_0_0_2_1_0_0) shapeCasts_S128x1x1x2x16x64_S128x1x2x16x64

theorem res0 (c : Dev nD) : Pipeline.afterTail₀ cfgs (dats m) 0 (V0 m) [hostOps1] c main_v16
    = CUT0 ((dats m 0 c).arrAt 3 cfg0.N) := by
  unfold Pipeline.afterTail₀
  simp only [hostOps1, List.flatten_cons, List.flatten_nil, List.append_nil]
  after_results
  exact congrArg CUT0 (tail m c)

theorem res1 (c : Dev nD) : Pipeline.afterTail₀ cfgs (dats m) 0 (V0 m) [hostOps1] c main_v18
    = CUT1 ((dats m 0 c).arrAt 3 cfg0.N) := by
  unfold Pipeline.afterTail₀
  simp only [hostOps1, List.flatten_cons, List.flatten_nil, List.append_nil]
  after_results
  exact congrArg CUT1 (tail m c)

theorem res2 (c : Dev nD) : Pipeline.afterTail₀ cfgs (dats m) 0 (V0 m) [hostOps1] c main_v20
    = CUT2 ((dats m 0 c).arrAt 3 cfg0.N) := by
  unfold Pipeline.afterTail₀
  simp only [hostOps1, List.flatten_cons, List.flatten_nil, List.append_nil]
  after_results
  exact congrArg CUT2 (tail m c)

/-- The block the grid point leaves: the normed rows times the weights. -/
def BLOCK (X : FVec Ideal S128x1024 .f32) (G : FVec Ideal S1x1024 .f32) (W : FVec Ideal S1x1024x9216 .bf16) :
    FVec Ideal S128x9216 .f32 := fun y =>
  times (rms (fun j => X (ix2 (y 0) j)) (fun j => G (ix2 0 j))) (fun k j => W (ix3 0 k j)) (y 1)

theorem out_eq (X : FVec Ideal S128x1024 .f32) (G : FVec Ideal S1x1024 .f32) (W : FVec Ideal S1x1024x9216 .bf16)
    (y : S128x9216.Idx) : out0_3 (F := Ideal) X G W y = BLOCK X G W y := by
  canon_tiles x h
  all_goals (open_payloads; pointwise [BLOCK, times, rms]; blk_point [])

/-- The call's array: the normed rows times the weights. -/
theorem final (c : Dev nD) : (dats m 0 c).arrAt 3 cfg0.N = fun y : S128x9216.Idx =>
    times (rms (fun j => (m ((c : Thread nD τ).loc main_arg0) : FVec Ideal S128x1024 .f32) (ix2 (y 0) j))
      (fun j => (m ((c : Thread nD τ).loc main_arg1) : FVec Ideal S4x4x1024 .f32) (ix3 2 0 j)))
      (fun k j => (V m c main_v12 : FVec Ideal S1x1024x9216 .bf16) (ix3 0 k j)) (y 1) := by
  refine (dats m 0 c).arrAt_eq_of_covers 3 _ (by decide +kernel) fun t _ y => ?_
  blk_simp
  rw [after0_3, out_eq]
  have h0 : ∀ j, iblk m c 0 t (ix2 (y 0) j) = (m ((c : Thread nD τ).loc main_arg0) : FVec Ideal S128x1024 .f32)
      (ix2 (((cfg0.win 3).blk t).view.emb y 0) j) := fun j => by blk_point [iblk, V, idx_val t]
  have h1 : ∀ j, iblk m c 1 t (ix2 0 j) = (m ((c : Thread nD τ).loc main_arg1) : FVec Ideal S4x4x1024 .f32) (ix3 2 0 j) := fun j => by
    rw [show iblk m c 1 t (ix2 0 j) = (V m c main_v11 : FVec Ideal S1x1024 .f32) (((cfg0.win 1).blk t).view.emb (ix2 0 j)) from rfl, norm]
    blk_point [idx_val t]
  have h2 : ∀ k j, iblk m c 2 t (ix3 0 k j) = (V m c main_v12 : FVec Ideal S1x1024x9216 .bf16) (ix3 0 k j) := fun k j => by
    rw [show iblk m c 2 t (ix3 0 k j) = (V m c main_v12 : FVec Ideal S1x1024x9216 .bf16) (((cfg0.win 2).blk t).view.emb (ix3 0 k j)) from rfl]
    generalize (V m c main_v12 : FVec Ideal S1x1024x9216 .bf16) = W
    blk_point [idx_val t]
  unfold BLOCK
  simp only [h0, h1, h2]
  generalize (V m c main_v12 : FVec Ideal S1x1024x9216 .bf16) = W
  generalize times _ _ = R
  suffices h : ∀ A : FVec Ideal S128x9216 .f32, A (ix2 0 (y 1)) = A (ix2 0 (((cfg0.win 3).blk t).view.emb y 1)) from h (fun z => R (z 1))
  intro A
  blk_point [idx_val t]

/-- The column of group `g`'s key or value `p`, head `h`, entry `e`. -/
def col (g : Nat) (hg : g < 3) (p : Fin 2) (h : Fin 16) (e : Fin 64) : Fin 9216 :=
  ⟨g * 3072 + (1 + p.val) * 1024 + h.val * 64 + e.val, by omega⟩

theorem col_mod (g : Nat) (hg : g < 3) (p : Fin 2) (h : Fin 16) (e : Fin 64) : 1024 ≤ (col g hg p h e).val % 3072 := by
  simp only [col]
  omega

theorem cut0 (A : FVec Ideal S128x9216 .f32) (y : S128x1x2x16x64.Idx) :
    CUT0 A y = A (ix2 (y 0) (col 0 (by decide) (y 2) (y 3) (y 4))) := by
  pointwise [CUT0]
  blk_point [col]

theorem cut1 (A : FVec Ideal S128x9216 .f32) (y : S128x1x2x16x64.Idx) :
    CUT1 A y = A (ix2 (y 0) (col 1 (by decide) (y 2) (y 3) (y 4))) := by
  pointwise [CUT1]
  blk_point [col]

theorem cut2 (A : FVec Ideal S128x9216 .f32) (y : S128x1x2x16x64.Idx) :
    CUT2 A y = A (ix2 (y 0) (col 2 (by decide) (y 2) (y 3) (y 4))) := by
  pointwise [CUT2]
  blk_point [col]

/-- On the columns of the keys and values the call's array is the normed rows times the weights as they were given. -/
theorem array_eq (c : Dev nD) (i : Fin 128) (j : Fin 9216) (h : 1024 ≤ j.val % 3072) : (dats m 0 c).arrAt 3 cfg0.N (ix2 i j)
    = times (rms (fun k => (m ((c : Thread nD τ).loc main_arg0) : FVec Ideal S128x1024 .f32) (ix2 i k))
      (fun k => (m ((c : Thread nD τ).loc main_arg1) : FVec Ideal S4x4x1024 .f32) (ix3 2 0 k)))
      (fun k j => (m ((c : Thread nD τ).loc main_arg2) : FVec Ideal S1x1024x9216 .f32) (ix3 0 k j)) j := by
  rw [final, weights]
  have hs : SCALE (ix1 j) = (1 : EReal) := scale_eq (ix1 j) h
  generalize SCALE = s at hs ⊢
  pointwise [times]
  simp only [hs, mul_one]

/-- The reference's product: the normed rows times the weights. -/
theorem ref_row (X : FVec Ideal S128x1024 .f32) (G : FVec Ideal S4x4x1024 .f32) (W : FVec Ideal S1x1024x9216 .f32)
    (i : Fin 128) (j : Fin 9216) : Cert.Reference7Ideal.Read.val_main_v18 (F := Ideal) X G W (ix2 i j)
    = times (rms (fun k => X (ix2 i k)) (fun k => G (ix3 2 0 k))) (fun k j => W (ix3 0 k j)) j := by
  open Cert.Reference7Ideal.Read in
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1,
    rms, times]

end Cert.Kernel7Ideal.Samp

end
-- ==== Proof.AttnRows.lean ====
/- The columns of the attention's projection, and their scaling. -/
module

public import proofs.«01_k».proof.Proof.Samp

@[expose] public section

noncomputable section

namespace Cert.Rows

open Idealize.ShloMosaic

/-- Column `j` of group `g`. -/
def gcol (g : Nat) (hg : g < 3) (j : Fin 3072) : Fin 9216 := ⟨g * 3072 + j.val, by omega⟩

/-- The factor of the queries. -/
abbrev QS : EReal := Ideal.ofBits .f32 0x3E38AA3B#32

theorem qs_real : ∃ r : ℝ, 0 ≤ r ∧ QS = (r : EReal) := by
  refine ⟨_, ?_, (by simp [Ideal.ofBits, Ideal.ieee]; rfl)⟩
  positivity

/-- A common factor that is a number comes out of a row times a matrix. -/
theorem sum_scaled {K : ℕ} (a w : Fin K → EReal) : ∑ k, a k * (w k * QS) = (∑ k, a k * w k) * QS := by
  obtain ⟨r, hr, e⟩ := qs_real
  rw [e]
  have h : ∀ s : Finset (Fin K), ∑ k ∈ s, a k * (w k * (r : EReal)) = (∑ k ∈ s, a k * w k) * (r : EReal) := fun s => by
    induction s using Finset.induction_on with
    | empty => simp
    | insert k s hk ih =>
      rw [Finset.sum_insert hk, Finset.sum_insert hk, ih,
        EReal.right_distrib_of_nonneg_of_ne_top (EReal.coe_nonneg.mpr hr) (EReal.coe_ne_top r), mul_assoc]
  exact h _

/-- Against a scaled column a row's product is the product scaled. -/
theorem times_query (r : Fin 1024 → EReal) (V W : FVec Ideal Cert.Kernel7Ideal.S1x1024x9216 .bf16) (s : EReal) (j : Fin 9216)
    (h : ∀ k, V (ix3 0 k j) = W (ix3 0 k j) * s) (hs : s = QS) :
    times r (fun k j => V (ix3 0 k j)) j = times r (fun k j => W (ix3 0 k j)) j * QS := by
  unfold times
  simp only [h, hs]
  exact sum_scaled _ _

/-- Against a column scaled by one it is the product. -/
theorem times_plain (r : Fin 1024 → EReal) (V W : FVec Ideal Cert.Kernel7Ideal.S1x1024x9216 .bf16) (s : EReal) (j : Fin 9216)
    (h : ∀ k, V (ix3 0 k j) = W (ix3 0 k j) * s) (hs : s = 1) :
    times r (fun k j => V (ix3 0 k j)) j = times r (fun k j => W (ix3 0 k j)) j := by
  unfold times
  simp only [h, hs, mul_one]

end Cert.Rows

namespace Cert.Kernel7Ideal.Samp

open Idealize.ShloMosaic Cert.Kernel7Ideal

/-- The first 1024 columns of a group are its queries. -/
theorem before : ∀ n : Fin 3072, n.val < 1024 → IntOp.cmpi CmpIPredicate.slt (BitVec.ofNat 32 n.val) 1024#32 = 1#1 := by
  decide +kernel

/-- The columns of the queries are scaled. -/
theorem scale_q (y : S9216.Idx) (h : (y 0).val % 3072 < 1024) : SCALE y = Cert.Rows.QS := by
  have hr : (y 0).val % 3072 < 3072 := Nat.mod_lt _ (by decide)
  have hs := before ⟨_, hr⟩ h
  pointwise [SCALE]
  rw [rem_eq, hs]
  rfl

end Cert.Kernel7Ideal.Samp

end
-- ==== Proof.AttnRefA.lean ====
/- The reference of the prompt's projection in front of the attention, first group, at an index. -/
module

public import proofs.«01_k».proof.Proof.Gen.Reference8Ideal.Read
public import proofs.«01_k».proof.Proof.AttnRows

@[expose] public section

set_option maxRecDepth 16384

noncomputable section

open Idealize.ShloMosaic

namespace Cert.Reference8Ideal.Attn

open Cert.Reference8Ideal Cert.Reference8Ideal.Read Cert.Rows

variable (X : FVec Ideal S8x2048x1024 .f32) (G : FVec Ideal S4x4x1024 .f32) (W : FVec Ideal S1x1024x9216 .f32)

/-- The projection at an index. -/
def AT (b : Fin 8) (i : Fin 2048) (j : Fin 9216) : EReal :=
  times (rms (fun k => X (ix3 b i k)) (fun k => G (ix3 2 0 k))) (fun k j => W (ix3 0 k j)) j

theorem proj_eq (y : S8x2048x9216.Idx) : val_main_v18 (F := Ideal) X G W y = AT X G W (y 0) (y 1) (y 2) := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, AT, rms, times]

/-- The number of head `h`'s entry `e` of part `p` (query, key, value) of a row. -/
def part (p h e : ℕ) (hp : p < 3) (hh : h < 16) (he : e < 64) : Fin 3072 := ⟨p * 1024 + h * 64 + e, by omega⟩

theorem split_eq (y : S8x2048x3x3x16x64.Idx) : val_main_v19 (F := Ideal) X G W y = AT X G W (y 0) (y 1)
    ⟨(y 2).val * 3072 + (y 3).val * 1024 + (y 4).val * 64 + (y 5).val, by
      have : (y 2).val < 3 := (y 2).isLt
      have : (y 3).val < 3 := (y 3).isLt
      have : (y 4).val < 16 := (y 4).isLt
      have : (y 5).val < 64 := (y 5).isLt
      omega⟩ := by
  refine Eq.trans ?_ (proj_eq X G W (ix3 (y 0) (y 1) _))
  unfold val_main_v19
  generalize val_main_v18 (F := Ideal) X G W = A
  pointwise []

theorem query_eq (y : S8x2048x1x16x64.Idx) : val_main_v26 (F := Ideal) X G W y = AT X G W (y 0) (y 1)
    (gcol 0 (by decide) (part 0 (y 3).val (y 4).val (by decide) (y 3).isLt (y 4).isLt)) * QS := by
  pointwise [val_main_v26, val_main_v23, val_main_v22, val_main_v21, val_main_v20, val_main_cst_2, split_eq, gcol, part]

theorem kv_eq (y : S8x2048x2x16x64.Idx) : val_main_v25 (F := Ideal) X G W y = AT X G W (y 0) (y 1)
    (gcol 0 (by decide) (part (1 + (y 2).val) (y 3).val (y 4).val (by have : (y 2).val < 2 := (y 2).isLt; omega) (y 3).isLt (y 4).isLt)) := by
  pointwise [val_main_v25, val_main_v24, split_eq, gcol, part]

theorem all_eq (y : S8x2048x3x16x64.Idx) : val_main_v27 (F := Ideal) X G W y
    = if (y 2).val < 1 then AT X G W (y 0) (y 1) (gcol 0 (by decide) (part (y 2).val (y 3).val (y 4).val (y 2).isLt (y 3).isLt (y 4).isLt)) * QS
      else AT X G W (y 0) (y 1) (gcol 0 (by decide) (part (y 2).val (y 3).val (y 4).val (y 2).isLt (y 3).isLt (y 4).isLt)) := by
  pointwise [val_main_v27, query_eq, kv_eq]
  by_cases h : (y 2).val < 1
  · rw [dif_pos h, if_pos h]
    exact congrArg (· * QS) (congrArg (AT X G W _ _) (Fin.ext (by simp only [gcol, part]; omega)))
  · rw [dif_neg h, if_neg h]
    exact congrArg (AT X G W _ _) (Fin.ext (by simp only [gcol, part]; omega))

theorem row_eq (y : S8x2048x3072.Idx) : val_main_v28 (F := Ideal) X G W y
    = if (y 2).val < 1024 then AT X G W (y 0) (y 1) (gcol 0 (by decide) (y 2)) * QS
      else AT X G W (y 0) (y 1) (gcol 0 (by decide) (y 2)) := by
  unfold val_main_v28
  have hy : (y 2).val < 3072 := (y 2).isLt
  pointwise [all_eq, gcol, part]
  by_cases h : (y 2).val < 1024
  · rw [if_pos h, if_pos (by omega)]
    exact congrArg (· * QS) (congrArg (AT X G W _ _) (Fin.ext (by dsimp only; omega)))
  · rw [if_neg h, if_neg (by omega)]
    exact congrArg (AT X G W _ _) (Fin.ext (by dsimp only; omega))

theorem rows_eq (y : S8x1x2048x3072.Idx) : val_main_v31 (F := Ideal) X G W y
    = if (y 3).val < 1024 then AT X G W (y 0) (y 2) (gcol 0 (by decide) (y 3)) * QS
      else AT X G W (y 0) (y 2) (gcol 0 (by decide) (y 3)) := by
  have e : idx_main_v29 (idx_main_v30 y) = ix3 (y 0) (y 2) (y 3) := by
    have h0 : (y 0).val < 8 := (y 0).isLt
    have h1 : (y 1).val < 1 := (y 1).isLt
    have h2 : (y 2).val < 2048 := (y 2).isLt
    have h3 : (y 3).val < 3072 := (y 3).isLt
    funext a
    refine Fin.ext ?_
    match a with
    | ⟨0, _⟩ => show ((((y 0).val * 2048 + (y 2).val) * 1 + (y 1).val) * 3072 + (y 3).val) / 6291456 = (y 0).val; omega
    | ⟨1, _⟩ => show ((((y 0).val * 2048 + (y 2).val) * 1 + (y 1).val) * 3072 + (y 3).val) / 3072 % 2048 = (y 2).val; omega
    | ⟨2, _⟩ => show ((((y 0).val * 2048 + (y 2).val) * 1 + (y 1).val) * 3072 + (y 3).val) % 3072 = (y 3).val; omega
  rw [val_main_v31_apply, val_main_v30_apply, val_main_v29_apply, e]
  exact row_eq X G W (ix3 (y 0) (y 2) (y 3))

theorem kept_eq (y : S8x128x2048.Idx) : val_main_v33 (F := Ideal) X G W y
    = AT X G W (y 0) ⟨1920 + (y 1).val, by have : (y 1).val < 128 := (y 1).isLt; omega⟩
      (gcol 0 (by decide) ⟨1024 + (y 2).val, by have : (y 2).val < 2048 := (y 2).isLt; omega⟩) := by
  have hy : (y 2).val < 2048 := (y 2).isLt
  pointwise [val_main_v33, val_main_v32, kv_eq, gcol, part]
  exact congrArg (AT X G W _ _) (Fin.ext (by dsimp only; omega))

end Cert.Reference8Ideal.Attn

end
-- ==== Proof.AttnA.lean ====
/- The prompt's projection in front of the attention, first group: what the call leaves, row by row. -/
module

public import proofs.«01_k».proof.Proof.Gen.Kernel8Ideal.Value
public import proofs.«01_k».proof.Proof.AttnRefA

@[expose] public section

set_option maxRecDepth 16384

noncomputable section

open Idealize.ShloMosaic Idealize.ShloMosaic.TcCoe Idealize.SL.Sem
open Idealize.ShloMosaic.Pipeline (Dat)

namespace Cert.Kernel8Ideal.Attn

open Cert.Kernel8Ideal Cert.Kernel8Ideal.Gen Cert.Rows

variable (m : (ℓ : Loc nD τ sig) → Buf (Elt Ideal) ℓ)

/-- Where every window's block sits at a grid point. -/
theorem idx_val : ∀ t : Fin cfg0.N, t.val < 16 ∧ win0_0.index t = ![t.val / 2, t.val % 2, 0] ∧ win0_1.index t = ![0, 0]
    ∧ win0_2.index t = ![0, 0, 0] ∧ win0_3.index t = ![t.val / 2, 0, t.val % 2, 0] ∧ win0_4.index t = ![t.val / 2, 0, 0] :=
  (by decide +kernel : ∀ t : Fin grid0.N, _)

/-- The weights the call reads: every column times its factor. -/
theorem weights (c : Dev nD) : (V m c main_v12 : FVec Ideal S1x1024x9216 .bf16)
    = truncf .bf16 (mulf (m ((c : Thread nD τ).loc main_arg2)) (broadcastInDim S1x1024x9216 ![0, 1, 2] bcast_S1x1x9216_S1x1024x9216_0_1_2
        (broadcastInDim S1x1x9216 ![2] bcast_S9216_S1x1x9216_2 Cert.Kernel7Ideal.Samp.SCALE))) bitsLt_bf16_f32 := by
  unfold V
  simp only [hostOps0, hostOps0_1, hostOps0_2, hostOps0_3, hostOps0_4, List.flatten_cons, List.flatten_nil, List.append_nil, List.cons_append, List.nil_append]
  after_results
  rfl

/-- The norm the call reads. -/
theorem norm (c : Dev nD) : (V m c main_v11 : FVec Ideal S1x1024 .f32)
    = fun y => (m ((c : Thread nD τ).loc main_arg1) : FVec Ideal S4x4x1024 .f32) (ix3 2 0 (y 1)) := by
  unfold V
  simp only [hostOps0, hostOps0_1, hostOps0_2, hostOps0_3, hostOps0_4, List.flatten_cons, List.flatten_nil, List.append_nil, List.cons_append, List.nil_append]
  after_results
  funext y
  pointwise []

/-- A row of a grid point's block after the projection. -/
def ROW (X : FVec Ideal S1x1024x1024 .f32) (G : FVec Ideal S1x1024 .f32) (W : FVec Ideal S1x1024x3072 .bf16)
    (i : Fin 1024) : Fin 3072 → EReal :=
  times (rms (fun j => X (ix3 0 i j)) (fun j => G (ix2 0 j))) (fun k j => W (ix3 0 k j))

theorem rows_eq (c : Dev nD) (t : Fin cfg0.N) (y : S1x1x1024x3072.Idx) : (outsAt0 (F := Ideal) m c t).1 y
    = ROW (iblk m c 0 t) (iblk m c 1 t) (iblk m c 2 t) (y 2) (y 3) := by
  unfold outsAt0
  dsimp only
  frame_out
  generalize iblk m c 0 t = X
  generalize iblk m c 1 t = G
  generalize iblk m c 2 t = W
  canon_tiles x h
  all_goals (open_payloads; pointwise [ROW, times, rms]; blk_point [])

theorem kept_eq (c : Dev nD) (t : Fin cfg0.N) (y : S1x128x2048.Idx) : (outsAt0 (F := Ideal) m c t).2 y
    = ROW (iblk m c 0 t) (iblk m c 1 t) (iblk m c 2 t) ⟨896 + (y 1).val, by have : (y 1).val < 128 := (y 1).isLt; omega⟩
      ⟨1024 + (y 2).val, by have : (y 2).val < 2048 := (y 2).isLt; omega⟩ := by
  unfold outsAt0
  dsimp only
  frame_out
  generalize iblk m c 0 t = X
  generalize iblk m c 1 t = G
  generalize iblk m c 2 t = W
  canon_tiles x h
  all_goals (open_payloads; pointwise [ROW, times, rms]; blk_point [])

theorem norm_in (c : Dev nD) (t : Fin cfg0.N) (j : Fin 1024) : iblk m c 1 t (ix2 0 j)
    = (m ((c : Thread nD τ).loc main_arg1) : FVec Ideal S4x4x1024 .f32) (ix3 2 0 j) := by
  rw [show iblk m c 1 t (ix2 0 j) = (V m c main_v11 : FVec Ideal S1x1024 .f32) (((cfg0.win 1).blk t).view.emb (ix2 0 j)) from rfl, norm]
  blk_point [idx_val t]

theorem weights_in (c : Dev nD) (t : Fin cfg0.N) (k : Fin 1024) (j : Fin 3072) : iblk m c 2 t (ix3 0 k j)
    = (V m c main_v12 : FVec Ideal S1x1024x9216 .bf16) (ix3 0 k (gcol 0 (by decide) j)) := by
  rw [show iblk m c 2 t (ix3 0 k j) = (V m c main_v12 : FVec Ideal S1x1024x9216 .bf16) (((cfg0.win 2).blk t).view.emb (ix3 0 k j)) from rfl]
  generalize (V m c main_v12 : FVec Ideal S1x1024x9216 .bf16) = W
  blk_point [idx_val t, gcol]

theorem first_in (c : Dev nD) (t : Fin cfg0.N) (i : Fin 1024) (j : Fin 1024) : iblk m c 0 t (ix3 0 i j)
    = (m ((c : Thread nD τ).loc main_arg0) : FVec Ideal S8x2048x1024 .f32)
        (ix3 ⟨t.val / 2, by have := (idx_val t).1; omega⟩ ⟨1024 * (t.val % 2) + i.val, by omega⟩ j) := by
  blk_point [iblk, V, idx_val t]

/-- The array of rows after a run. -/
theorem final_rows (c : Dev nD) : (dats m 0 c).arrAt 3 cfg0.N = fun y : S8x1x2048x3072.Idx =>
    times (rms (fun k => (m ((c : Thread nD τ).loc main_arg0) : FVec Ideal S8x2048x1024 .f32) (ix3 (y 0) (y 2) k))
      (fun k => (m ((c : Thread nD τ).loc main_arg1) : FVec Ideal S4x4x1024 .f32) (ix3 2 0 k)))
      (fun k j => (V m c main_v12 : FVec Ideal S1x1024x9216 .bf16) (ix3 0 k j)) (gcol 0 (by decide) (y 3)) := by
  refine (dats m 0 c).arrAt_eq_of_covers 3 _ (by decide +kernel) fun t hfl y => ?_
  blk_simp
  rw [after0_3, rows_eq]
  unfold ROW
  have h0 := fun j => first_in m c t (y 2) j
  have h2 := fun k => weights_in m c t k (y 3)
  simp only [h0, h2, norm_in m c t, times]
  generalize (V m c main_v12 : FVec Ideal S1x1024x9216 .bf16) = W
  blk_point [idx_val t, gcol]

/-- The array of keys and values after a run. -/
theorem final_kept (c : Dev nD) : (dats m 0 c).arrAt 4 cfg0.N = fun y : S8x128x2048.Idx =>
    times (rms (fun k => (m ((c : Thread nD τ).loc main_arg0) : FVec Ideal S8x2048x1024 .f32) (ix3 (y 0) ⟨1920 + (y 1).val, by have : (y 1).val < 128 := (y 1).isLt; omega⟩ k))
      (fun k => (m ((c : Thread nD τ).loc main_arg1) : FVec Ideal S4x4x1024 .f32) (ix3 2 0 k)))
      (fun k j => (V m c main_v12 : FVec Ideal S1x1024x9216 .bf16) (ix3 0 k j)) (gcol 0 (by decide) ⟨1024 + (y 2).val, by have : (y 2).val < 2048 := (y 2).isLt; omega⟩) := by
  refine (dats m 0 c).arrAt_eq_of_covers 4 _ (by decide +kernel) fun t hfl y => ?_
  blk_simp
  rw [after0_4, kept_eq]
  unfold ROW
  have h3 := (flush0_4 t).mp hfl
  simp only [first_in m c t, norm_in m c t, weights_in m c t, times]
  generalize (V m c main_v12 : FVec Ideal S1x1024x9216 .bf16) = W
  blk_point [idx_val t, gcol]

/-- A column of the scaled weights is the column times its scale. -/
theorem weight_at (c : Dev nD) (W : FVec Ideal S1x1024x9216 .f32) (hW : W = m ((c : Thread nD τ).loc main_arg2)) (k : Fin 1024) (j : Fin 9216) :
    (V m c main_v12 : FVec Ideal S1x1024x9216 .bf16) (ix3 0 k j) = W (ix3 0 k j) * Cert.Kernel7Ideal.Samp.SCALE (ix1 j) := by
  rw [weights, ← hW]
  generalize Cert.Kernel7Ideal.Samp.SCALE = s
  pointwise []

/-- The array of rows is the reference's. -/
theorem rows_ref (c : Dev nD) : (dats m 0 c).arrAt 3 cfg0.N = Cert.Reference8Ideal.Read.val_main_v31 (F := Ideal)
    (m ((c : Thread nD τ).loc main_arg0)) (m ((c : Thread nD τ).loc main_arg1)) (m ((c : Thread nD τ).loc main_arg2)) := by
  rw [final_rows]
  funext y
  refine Eq.trans ?_ (Cert.Reference8Ideal.Attn.rows_eq _ _ _ y).symm
  have hy : (y 3).val < 3072 := (y 3).isLt
  by_cases h : (y 3).val < 1024
  · rw [if_pos h]
    exact times_query _ _ _ _ _ (fun k => weight_at m c _ rfl k _)
      (Cert.Kernel7Ideal.Samp.scale_q _ (show (0 * 3072 + (y 3).val) % 3072 < 1024 by omega))
  · rw [if_neg h]
    exact times_plain _ _ _ _ _ (fun k => weight_at m c _ rfl k _)
      (Cert.Kernel7Ideal.Samp.scale_eq _ (show 1024 ≤ (0 * 3072 + (y 3).val) % 3072 by omega))

/-- The array of keys and values is the reference's. -/
theorem kept_ref (c : Dev nD) : (dats m 0 c).arrAt 4 cfg0.N = Cert.Reference8Ideal.Read.val_main_v33 (F := Ideal)
    (m ((c : Thread nD τ).loc main_arg0)) (m ((c : Thread nD τ).loc main_arg1)) (m ((c : Thread nD τ).loc main_arg2)) := by
  rw [final_kept]
  funext y
  refine Eq.trans ?_ (Cert.Reference8Ideal.Attn.kept_eq _ _ _ y).symm
  have hy : (y 2).val < 2048 := (y 2).isLt
  exact times_plain _ _ _ _ _ (fun k => weight_at m c _ rfl k _)
    (Cert.Kernel7Ideal.Samp.scale_eq _ (show 1024 ≤ (0 * 3072 + (1024 + (y 2).val)) % 3072 by omega))

end Cert.Kernel8Ideal.Attn

end
-- ==== Proof.AttnRefB.lean ====
/- The reference of the prompt's projection in front of the attention, second group, at an index. -/
module

public import proofs.«01_k».proof.Proof.Gen.Reference9Ideal.Read
public import proofs.«01_k».proof.Proof.AttnRows

@[expose] public section

set_option maxRecDepth 16384

noncomputable section

open Idealize.ShloMosaic

namespace Cert.Reference9Ideal.Attn

open Cert.Reference9Ideal Cert.Reference9Ideal.Read Cert.Rows

variable (X : FVec Ideal S8x2048x1024 .f32) (G : FVec Ideal S4x4x1024 .f32) (W : FVec Ideal S1x1024x9216 .f32)

/-- The projection at an index. -/
def AT (b : Fin 8) (i : Fin 2048) (j : Fin 9216) : EReal :=
  times (rms (fun k => X (ix3 b i k)) (fun k => G (ix3 2 0 k))) (fun k j => W (ix3 0 k j)) j

theorem proj_eq (y : S8x2048x9216.Idx) : val_main_v18 (F := Ideal) X G W y = AT X G W (y 0) (y 1) (y 2) := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, AT, rms, times]

/-- The number of head `h`'s entry `e` of part `p` (query, key, value) of a row. -/
def part (p h e : ℕ) (hp : p < 3) (hh : h < 16) (he : e < 64) : Fin 3072 := ⟨p * 1024 + h * 64 + e, by omega⟩

theorem split_eq (y : S8x2048x3x3x16x64.Idx) : val_main_v19 (F := Ideal) X G W y = AT X G W (y 0) (y 1)
    ⟨(y 2).val * 3072 + (y 3).val * 1024 + (y 4).val * 64 + (y 5).val, by
      have : (y 2).val < 3 := (y 2).isLt
      have : (y 3).val < 3 := (y 3).isLt
      have : (y 4).val < 16 := (y 4).isLt
      have : (y 5).val < 64 := (y 5).isLt
      omega⟩ := by
  refine Eq.trans ?_ (proj_eq X G W (ix3 (y 0) (y 1) _))
  unfold val_main_v19
  generalize val_main_v18 (F := Ideal) X G W = A
  pointwise []

theorem query_eq (y : S8x2048x1x16x64.Idx) : val_main_v26 (F := Ideal) X G W y = AT X G W (y 0) (y 1)
    (gcol 1 (by decide) (part 0 (y 3).val (y 4).val (by decide) (y 3).isLt (y 4).isLt)) * QS := by
  pointwise [val_main_v26, val_main_v23, val_main_v22, val_main_v21, val_main_v20, val_main_cst_2, split_eq, gcol, part]
  exact congrArg (· * QS) (congrArg (AT X G W _ _) (Fin.ext (by dsimp only; omega)))

theorem kv_eq (y : S8x2048x2x16x64.Idx) : val_main_v25 (F := Ideal) X G W y = AT X G W (y 0) (y 1)
    (gcol 1 (by decide) (part (1 + (y 2).val) (y 3).val (y 4).val (by have : (y 2).val < 2 := (y 2).isLt; omega) (y 3).isLt (y 4).isLt)) := by
  pointwise [val_main_v25, val_main_v24, split_eq, gcol, part]
  exact congrArg (AT X G W _ _) (Fin.ext (by dsimp only; omega))

theorem all_eq (y : S8x2048x3x16x64.Idx) : val_main_v27 (F := Ideal) X G W y
    = if (y 2).val < 1 then AT X G W (y 0) (y 1) (gcol 1 (by decide) (part (y 2).val (y 3).val (y 4).val (y 2).isLt (y 3).isLt (y 4).isLt)) * QS
      else AT X G W (y 0) (y 1) (gcol 1 (by decide) (part (y 2).val (y 3).val (y 4).val (y 2).isLt (y 3).isLt (y 4).isLt)) := by
  pointwise [val_main_v27, query_eq, kv_eq]
  by_cases h : (y 2).val < 1
  · rw [dif_pos h, if_pos h]
    exact congrArg (· * QS) (congrArg (AT X G W _ _) (Fin.ext (by simp only [gcol, part]; omega)))
  · rw [dif_neg h, if_neg h]
    exact congrArg (AT X G W _ _) (Fin.ext (by simp only [gcol, part]; omega))

theorem row_eq (y : S8x2048x3072.Idx) : val_main_v28 (F := Ideal) X G W y
    = if (y 2).val < 1024 then AT X G W (y 0) (y 1) (gcol 1 (by decide) (y 2)) * QS
      else AT X G W (y 0) (y 1) (gcol 1 (by decide) (y 2)) := by
  unfold val_main_v28
  have hy : (y 2).val < 3072 := (y 2).isLt
  pointwise [all_eq, gcol, part]
  by_cases h : (y 2).val < 1024
  · rw [if_pos h, if_pos (by omega)]
    exact congrArg (· * QS) (congrArg (AT X G W _ _) (Fin.ext (by dsimp only; omega)))
  · rw [if_neg h, if_neg (by omega)]
    exact congrArg (AT X G W _ _) (Fin.ext (by dsimp only; omega))

/-- The position of the `m`-th row of residue class `r`. -/
def whole (r : Fin 4) (m : Fin 512) : Fin 2048 := ⟨4 * m.val + r.val, by omega⟩

theorem rows_eq (y : S8x4x512x3072.Idx) : val_main_v31 (F := Ideal) X G W y
    = if (y 3).val < 1024 then AT X G W (y 0) (whole (y 1) (y 2)) (gcol 1 (by decide) (y 3)) * QS
      else AT X G W (y 0) (whole (y 1) (y 2)) (gcol 1 (by decide) (y 3)) := by
  have e : idx_main_v29 (idx_main_v30 y) = ix3 (y 0) (whole (y 1) (y 2)) (y 3) := by
    have h0 : (y 0).val < 8 := (y 0).isLt
    have h1 : (y 1).val < 4 := (y 1).isLt
    have h2 : (y 2).val < 512 := (y 2).isLt
    have h3 : (y 3).val < 3072 := (y 3).isLt
    funext a
    refine Fin.ext ?_
    match a with
    | ⟨0, _⟩ => show ((((y 0).val * 512 + (y 2).val) * 4 + (y 1).val) * 3072 + (y 3).val) / 6291456 = (y 0).val; omega
    | ⟨1, _⟩ => show ((((y 0).val * 512 + (y 2).val) * 4 + (y 1).val) * 3072 + (y 3).val) / 3072 % 2048 = 4 * (y 2).val + (y 1).val; omega
    | ⟨2, _⟩ => show ((((y 0).val * 512 + (y 2).val) * 4 + (y 1).val) * 3072 + (y 3).val) % 3072 = (y 3).val; omega
  rw [val_main_v31_apply, val_main_v30_apply, val_main_v29_apply, e]
  exact row_eq X G W (ix3 (y 0) (whole (y 1) (y 2)) (y 3))

theorem kept_eq (y : S8x512x2048.Idx) : val_main_v33 (F := Ideal) X G W y
    = AT X G W (y 0) ⟨1536 + (y 1).val, by have : (y 1).val < 512 := (y 1).isLt; omega⟩
      (gcol 1 (by decide) ⟨1024 + (y 2).val, by have : (y 2).val < 2048 := (y 2).isLt; omega⟩) := by
  have hy : (y 2).val < 2048 := (y 2).isLt
  pointwise [val_main_v33, val_main_v32, kv_eq, gcol, part]
  exact congrArg (AT X G W _ _) (Fin.ext (by dsimp only; omega))

end Cert.Reference9Ideal.Attn

end
-- ==== Proof.AttnB.lean ====
/- The prompt's projection in front of the attention, second group: what the call leaves, row by row. -/
module

public import proofs.«01_k».proof.Proof.Gen.Kernel9Ideal.Value
public import proofs.«01_k».proof.Proof.AttnRefB

@[expose] public section

set_option maxRecDepth 16384

noncomputable section

open Idealize.ShloMosaic Idealize.ShloMosaic.TcCoe Idealize.SL.Sem
open Idealize.ShloMosaic.Pipeline (Dat)

namespace Cert.Kernel9Ideal.Attn

open Cert.Kernel9Ideal Cert.Kernel9Ideal.Gen Cert.Rows

variable (m : (ℓ : Loc nD τ sig) → Buf (Elt Ideal) ℓ)

/-- Where every window's block sits at a grid point. -/
theorem idx_val : ∀ t : Fin cfg0.N, t.val < 16 ∧ win0_0.index t = ![t.val / 2, t.val % 2, 0] ∧ win0_1.index t = ![0, 0]
    ∧ win0_2.index t = ![0, 0, 1] ∧ win0_3.index t = ![t.val / 2, 0, t.val % 2, 0] ∧ win0_4.index t = ![t.val / 2, 0, 0] :=
  (by decide +kernel : ∀ t : Fin grid0.N, _)

/-- The weights the call reads: every column times its factor. -/
theorem weights (c : Dev nD) : (V m c main_v12 : FVec Ideal S1x1024x9216 .bf16)
    = truncf .bf16 (mulf (m ((c : Thread nD τ).loc main_arg2)) (broadcastInDim S1x1024x9216 ![0, 1, 2] bcast_S1x1x9216_S1x1024x9216_0_1_2
        (broadcastInDim S1x1x9216 ![2] bcast_S9216_S1x1x9216_2 Cert.Kernel7Ideal.Samp.SCALE))) bitsLt_bf16_f32 := by
  unfold V
  simp only [hostOps0, hostOps0_1, hostOps0_2, hostOps0_3, hostOps0_4, List.flatten_cons, List.flatten_nil, List.append_nil, List.cons_append, List.nil_append]
  after_results
  rfl

/-- The norm the call reads. -/
theorem norm (c : Dev nD) : (V m c main_v11 : FVec Ideal S1x1024 .f32)
    = fun y => (m ((c : Thread nD τ).loc main_arg1) : FVec Ideal S4x4x1024 .f32) (ix3 2 0 (y 1)) := by
  unfold V
  simp only [hostOps0, hostOps0_1, hostOps0_2, hostOps0_3, hostOps0_4, List.flatten_cons, List.flatten_nil, List.append_nil, List.cons_append, List.nil_append]
  after_results
  funext y
  pointwise []

/-- A row of a grid point's block after the projection. -/
def ROW (X : FVec Ideal S1x1024x1024 .f32) (G : FVec Ideal S1x1024 .f32) (W : FVec Ideal S1x1024x3072 .bf16)
    (i : Fin 1024) : Fin 3072 → EReal :=
  times (rms (fun j => X (ix3 0 i j)) (fun j => G (ix2 0 j))) (fun k j => W (ix3 0 k j))

/-- A strided read of the scratch, at an index. -/
theorem read_slot (L : List (View.Piece (Elt Ideal) S4x1024x128 .f32)) (s r : Nat) (hs : s < 4) (hr : r < 4) (inb)
    (a : Fin 256) (b : Fin 128) : (View.whole cc0_scratch0).readCov L
      (⟨![s, r, 0], ![1, 256, 128], ![1, 4, 1], inb⟩ : LoadRect S4x1024x128) (ix3 0 a b)
    = View.canon L (ix3 ⟨s, hs⟩ ⟨r + 4 * a.val, by omega⟩ b) := by
  rw [View.readCov_eq_canon']
  refine congrArg (View.canon L) (funext fun q => Fin.ext ?_)
  match q with
  | ⟨0, _⟩ => show s + 1 * 0 = s; omega
  | ⟨1, _⟩ => rfl
  | ⟨2, _⟩ => show 0 + 1 * b.val = b.val; omega

/-- A slot of the scratch holds what was last written to it; -/
theorem slot_hit (L : List (View.Piece (Elt Ideal) S4x1024x128 .f32)) (s : Nat) (hs : s < 4) (inb)
    (w : S1x1024x128.Idx → Elt Ideal .f32) (i : Fin 1024) (l : Fin 128) :
    View.canon ((⟨Rect.unit (s := S4x1024x128) ![s, 0, 0] ![1, 1024, 128] inb, w⟩ : View.Piece (Elt Ideal) S4x1024x128 .f32) :: L)
      (ix3 ⟨s, hs⟩ i l) = w (ix3 0 i l) := by
  refine Eq.trans (congrArg _ ?_) (View.canon_cons_emb (Rect.unit (s := S4x1024x128) ![s, 0, 0] ![1, 1024, 128] inb) w L (ix3 0 i l))
  refine funext fun a => Fin.ext ?_
  match a with
  | ⟨0, _⟩ => show s = s + 1 * 0; omega
  | ⟨1, _⟩ => show i.val = 0 + 1 * i.val; omega
  | ⟨2, _⟩ => show l.val = 0 + 1 * l.val; omega

/-- writes to the other slots leave it. -/
theorem slot_miss (L : List (View.Piece (Elt Ideal) S4x1024x128 .f32)) (s s' : Nat) (h : s < s' ∨ s' < s) (hs : s < 4) (inb)
    (w : S1x1024x128.Idx → Elt Ideal .f32) (i : Fin 1024) (l : Fin 128) :
    View.canon ((⟨Rect.unit (s := S4x1024x128) ![s', 0, 0] ![1, 1024, 128] inb, w⟩ : View.Piece (Elt Ideal) S4x1024x128 .f32) :: L)
      (ix3 ⟨s, hs⟩ i l) = View.canon L (ix3 ⟨s, hs⟩ i l) := by
  refine View.canon_cons_of_not_mem _ L fun hm => ?_
  obtain ⟨z, hz⟩ := (Rect.unit (s := S4x1024x128) ![s', 0, 0] ![1, 1024, 128] inb).exists_idx_of_mem hm
  have h0 : (z 0).val < 1 := (z 0).isLt
  have : s' + 1 * (z 0).val = s := congrArg (fun q : S4x1024x128.Idx => (q 0).val) hz
  omega

/-- What a store of the strided read puts at an index. -/
theorem cast_eq (v : Vec Ideal S1x256x128 .f32) (x : S1x1x256x128.Idx) :
    (shapeCast S1x1x256x128 (truncf .bf16 (shapeCast S256x128 v shapeCasts_S1x256x128_S256x128) bitsLt_bf16_f32)
      shapeCasts_S256x128_S1x1x256x128 : FVec Ideal S1x1x256x128 .bf16) x = v (ix3 0 (x 2) (x 3)) := by
  pointwise []

/-- Half a product against 256 columns, at an index. -/
theorem half_eq (X : Vec Ideal S1x1024x1024 .f32) (G : Vec Ideal S1x1024 .f32) (w : Vec Ideal S1x1024x256 .bf16)
    (o : Nat) (ho : o ≤ 128) (hs) (i : Fin 1024) (l : Fin 128) :
    (shapeCast S1x1024x128 (extractStridedSlice S1024x128 ![0, o] (matmul (F := Ideal) dot_S1024x1024_S1024x256_S1024x256_1_0_0_1_n_n none
      (k0_pay4 X G) (shapeCast S1024x256 w shapeCasts_S1x1024x256_S1024x256 : FVec Ideal S1024x256 .bf16)
      (constant S1024x256 .f32 0x00000000#32)) hs) shapeCasts_S1024x128_S1x1024x128 : FVec Ideal S1x1024x128 .f32) (ix3 0 i l)
    = times (rms (fun j => X (ix3 0 i j)) (fun j => G (ix2 0 j))) (fun k j => w (ix3 0 k j)) ⟨o + l.val, by omega⟩ := by
  open_payloads; pointwise [times, rms]

/-- The 256 columns read from column `c` on. -/
theorem cols_eq (X : Vec Ideal S1x1024x1024 .f32) (G : Vec Ideal S1x1024 .f32) (W : Vec Ideal S1x1024x3072 .bf16)
    (c : Nat) (hc : c ≤ 2816) (inb) (i : Fin 1024) (j : Fin 256) :
    times (rms (fun j => X (ix3 0 i j)) (fun j => G (ix2 0 j)))
      (fun k j => View.ld W (Rect.unit (s := S1x1024x3072) ![0, 0, c] ![1, 1024, 256] inb) (ix3 0 k j)) j
    = ROW X G W i ⟨c + j.val, by omega⟩ := by
  pointwise [ROW, times, rms]

set_option maxHeartbeats 2000000 in
/-- What a grid point leaves in the block of rows: row `m` of residue class `r` is its row `4 m + r`. -/
theorem rows_eq (c : Dev nD) (t : Fin cfg0.N) (y : S1x4x256x3072.Idx) : (outsAt0 (F := Ideal) m c t).1 y
    = ROW (iblk m c 0 t) (iblk m c 1 t) (iblk m c 2 t)
      ⟨4 * (y 2).val + (y 1).val, by have : (y 1).val < 4 := (y 1).isLt; have : (y 2).val < 256 := (y 2).isLt; omega⟩ (y 3) := by
  unfold outsAt0
  dsimp only
  frame_out
  generalize iblk m c 0 t = X
  generalize iblk m c 1 t = G
  generalize iblk m c 2 t = W
  revert X G W
  show ∀ (X : Vec Ideal S1x1024x1024 .f32) (G : Vec Ideal S1x1024 .f32) (W : Vec Ideal S1x1024x3072 .bf16), _
  intro X G W
  canon_tiles x h
  all_goals
    refine (cast_eq _ x).trans ?_
    refine (read_slot _ _ _ ?_ ?_ _ _ _).trans ?_
    on_goal 1 => decide
    on_goal 1 => decide
    repeat refine (slot_miss _ _ _ (by decide) _ _ _ _ _).trans ?_
    refine (slot_hit _ _ _ _ _ _ _).trans ?_
    refine (half_eq X G _ _ ?_ ?_ _ _).trans ?_
    on_goal 1 => decide
    try first | exact slices_S1024x256_o0_0_S1024x128 | exact slices_S1024x256_o0_128_S1024x128
    refine (cols_eq X G W _ ?_ _ _ _).trans ?_
    on_goal 1 => decide
    exact congrArg₂ (ROW X G W) (Fin.ext (by dsimp only; omega)) (Fin.ext (by dsimp only; omega))

/-- What a grid point leaves in the block of keys and values: its last 512 rows. -/
theorem kept_eq (c : Dev nD) (t : Fin cfg0.N) (y : S1x512x2048.Idx) : (outsAt0 (F := Ideal) m c t).2 y
    = ROW (iblk m c 0 t) (iblk m c 1 t) (iblk m c 2 t) ⟨512 + (y 1).val, by have : (y 1).val < 512 := (y 1).isLt; omega⟩
      ⟨1024 + (y 2).val, by have : (y 2).val < 2048 := (y 2).isLt; omega⟩ := by
  unfold outsAt0
  dsimp only
  frame_out
  generalize iblk m c 0 t = X
  generalize iblk m c 1 t = G
  generalize iblk m c 2 t = W
  canon_tiles x h
  all_goals (open_payloads; pointwise [ROW, times, rms]; blk_point [])

theorem norm_in (c : Dev nD) (t : Fin cfg0.N) (j : Fin 1024) : iblk m c 1 t (ix2 0 j)
    = (m ((c : Thread nD τ).loc main_arg1) : FVec Ideal S4x4x1024 .f32) (ix3 2 0 j) := by
  rw [show iblk m c 1 t (ix2 0 j) = (V m c main_v11 : FVec Ideal S1x1024 .f32) (((cfg0.win 1).blk t).view.emb (ix2 0 j)) from rfl, norm]
  blk_point [idx_val t]

theorem weights_in (c : Dev nD) (t : Fin cfg0.N) (k : Fin 1024) (j : Fin 3072) : iblk m c 2 t (ix3 0 k j)
    = (V m c main_v12 : FVec Ideal S1x1024x9216 .bf16) (ix3 0 k (gcol 1 (by decide) j)) := by
  rw [show iblk m c 2 t (ix3 0 k j) = (V m c main_v12 : FVec Ideal S1x1024x9216 .bf16) (((cfg0.win 2).blk t).view.emb (ix3 0 k j)) from rfl]
  generalize (V m c main_v12 : FVec Ideal S1x1024x9216 .bf16) = W
  blk_point [idx_val t, gcol]

theorem first_in (c : Dev nD) (t : Fin cfg0.N) (i : Fin 1024) (j : Fin 1024) : iblk m c 0 t (ix3 0 i j)
    = (m ((c : Thread nD τ).loc main_arg0) : FVec Ideal S8x2048x1024 .f32)
        (ix3 ⟨t.val / 2, by have := (idx_val t).1; omega⟩ ⟨1024 * (t.val % 2) + i.val, by omega⟩ j) := by
  blk_point [iblk, V, idx_val t]

/-- The array of rows after a run. -/
theorem final_rows (c : Dev nD) : (dats m 0 c).arrAt 3 cfg0.N = fun y : S8x4x512x3072.Idx =>
    times (rms (fun k => (m ((c : Thread nD τ).loc main_arg0) : FVec Ideal S8x2048x1024 .f32) (ix3 (y 0) (Cert.Reference9Ideal.Attn.whole (y 1) (y 2)) k))
      (fun k => (m ((c : Thread nD τ).loc main_arg1) : FVec Ideal S4x4x1024 .f32) (ix3 2 0 k)))
      (fun k j => (V m c main_v12 : FVec Ideal S1x1024x9216 .bf16) (ix3 0 k j)) (gcol 1 (by decide) (y 3)) := by
  refine (dats m 0 c).arrAt_eq_of_covers 3 _ (by decide +kernel) fun t hfl y => ?_
  blk_simp
  rw [after0_3, rows_eq]
  unfold ROW
  have h0 := fun j => first_in m c t ⟨4 * (y 2).val + (y 1).val, by have : (y 1).val < 4 := (y 1).isLt; have : (y 2).val < 256 := (y 2).isLt; omega⟩ j
  have h2 := fun k => weights_in m c t k (y 3)
  simp only [h0, h2, norm_in m c t, times]
  generalize (V m c main_v12 : FVec Ideal S1x1024x9216 .bf16) = W
  blk_point [idx_val t, gcol, Cert.Reference9Ideal.Attn.whole]

/-- The array of keys and values after a run. -/
theorem final_kept (c : Dev nD) : (dats m 0 c).arrAt 4 cfg0.N = fun y : S8x512x2048.Idx =>
    times (rms (fun k => (m ((c : Thread nD τ).loc main_arg0) : FVec Ideal S8x2048x1024 .f32) (ix3 (y 0) ⟨1536 + (y 1).val, by have : (y 1).val < 512 := (y 1).isLt; omega⟩ k))
      (fun k => (m ((c : Thread nD τ).loc main_arg1) : FVec Ideal S4x4x1024 .f32) (ix3 2 0 k)))
      (fun k j => (V m c main_v12 : FVec Ideal S1x1024x9216 .bf16) (ix3 0 k j)) (gcol 1 (by decide) ⟨1024 + (y 2).val, by have : (y 2).val < 2048 := (y 2).isLt; omega⟩) := by
  refine (dats m 0 c).arrAt_eq_of_covers 4 _ (by decide +kernel) fun t hfl y => ?_
  blk_simp
  rw [after0_4, kept_eq]
  unfold ROW
  have h3 := (flush0_4 t).mp hfl
  simp only [first_in m c t, norm_in m c t, weights_in m c t, times]
  generalize (V m c main_v12 : FVec Ideal S1x1024x9216 .bf16) = W
  blk_point [idx_val t, gcol]

/-- A column of the scaled weights is the column times its scale. -/
theorem weight_at (c : Dev nD) (W : FVec Ideal S1x1024x9216 .f32) (hW : W = m ((c : Thread nD τ).loc main_arg2)) (k : Fin 1024) (j : Fin 9216) :
    (V m c main_v12 : FVec Ideal S1x1024x9216 .bf16) (ix3 0 k j) = W (ix3 0 k j) * Cert.Kernel7Ideal.Samp.SCALE (ix1 j) := by
  rw [weights, ← hW]
  generalize Cert.Kernel7Ideal.Samp.SCALE = s
  pointwise []

/-- The array of rows is the reference's. -/
theorem rows_ref (c : Dev nD) : (dats m 0 c).arrAt 3 cfg0.N = Cert.Reference9Ideal.Read.val_main_v31 (F := Ideal)
    (m ((c : Thread nD τ).loc main_arg0)) (m ((c : Thread nD τ).loc main_arg1)) (m ((c : Thread nD τ).loc main_arg2)) := by
  rw [final_rows]
  funext y
  refine Eq.trans ?_ (Cert.Reference9Ideal.Attn.rows_eq _ _ _ y).symm
  have hy : (y 3).val < 3072 := (y 3).isLt
  by_cases h : (y 3).val < 1024
  · rw [if_pos h]
    exact times_query _ _ _ _ _ (fun k => weight_at m c _ rfl k _)
      (Cert.Kernel7Ideal.Samp.scale_q _ (show (1 * 3072 + (y 3).val) % 3072 < 1024 by omega))
  · rw [if_neg h]
    exact times_plain _ _ _ _ _ (fun k => weight_at m c _ rfl k _)
      (Cert.Kernel7Ideal.Samp.scale_eq _ (show 1024 ≤ (1 * 3072 + (y 3).val) % 3072 by omega))

/-- The array of keys and values is the reference's. -/
theorem kept_ref (c : Dev nD) : (dats m 0 c).arrAt 4 cfg0.N = Cert.Reference9Ideal.Read.val_main_v33 (F := Ideal)
    (m ((c : Thread nD τ).loc main_arg0)) (m ((c : Thread nD τ).loc main_arg1)) (m ((c : Thread nD τ).loc main_arg2)) := by
  rw [final_kept]
  funext y
  refine Eq.trans ?_ (Cert.Reference9Ideal.Attn.kept_eq _ _ _ y).symm
  have hy : (y 2).val < 2048 := (y 2).isLt
  exact times_plain _ _ _ _ _ (fun k => weight_at m c _ rfl k _)
    (Cert.Kernel7Ideal.Samp.scale_eq _ (show 1024 ≤ (1 * 3072 + (1024 + (y 2).val)) % 3072 by omega))

end Cert.Kernel9Ideal.Attn

end
-- ==== Proof.AttnRefC.lean ====
/- The reference of the prompt's projection in front of the attention, third group, at an index. -/
module

public import proofs.«01_k».proof.Proof.Gen.Reference10Ideal.Read
public import proofs.«01_k».proof.Proof.AttnRows

@[expose] public section

set_option maxRecDepth 16384

noncomputable section

open Idealize.ShloMosaic

namespace Cert.Reference10Ideal.Attn

open Cert.Reference10Ideal Cert.Reference10Ideal.Read Cert.Rows

variable (X : FVec Ideal S8x2048x1024 .f32) (G : FVec Ideal S4x4x1024 .f32) (W : FVec Ideal S1x1024x9216 .f32)

/-- The projection at an index. -/
def AT (b : Fin 8) (i : Fin 2048) (j : Fin 9216) : EReal :=
  times (rms (fun k => X (ix3 b i k)) (fun k => G (ix3 2 0 k))) (fun k j => W (ix3 0 k j)) j

theorem proj_eq (y : S8x2048x9216.Idx) : val_main_v18 (F := Ideal) X G W y = AT X G W (y 0) (y 1) (y 2) := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, AT, rms, times]

/-- The number of head `h`'s entry `e` of part `p` (query, key, value) of a row. -/
def part (p h e : ℕ) (hp : p < 3) (hh : h < 16) (he : e < 64) : Fin 3072 := ⟨p * 1024 + h * 64 + e, by omega⟩

theorem split_eq (y : S8x2048x3x3x16x64.Idx) : val_main_v19 (F := Ideal) X G W y = AT X G W (y 0) (y 1)
    ⟨(y 2).val * 3072 + (y 3).val * 1024 + (y 4).val * 64 + (y 5).val, by
      have : (y 2).val < 3 := (y 2).isLt
      have : (y 3).val < 3 := (y 3).isLt
      have : (y 4).val < 16 := (y 4).isLt
      have : (y 5).val < 64 := (y 5).isLt
      omega⟩ := by
  refine Eq.trans ?_ (proj_eq X G W (ix3 (y 0) (y 1) _))
  unfold val_main_v19
  generalize val_main_v18 (F := Ideal) X G W = A
  pointwise []

theorem query_eq (y : S8x2048x1x16x64.Idx) : val_main_v26 (F := Ideal) X G W y = AT X G W (y 0) (y 1)
    (gcol 2 (by decide) (part 0 (y 3).val (y 4).val (by decide) (y 3).isLt (y 4).isLt)) * QS := by
  pointwise [val_main_v26, val_main_v23, val_main_v22, val_main_v21, val_main_v20, val_main_cst_2, split_eq, gcol, part]
  exact congrArg (· * QS) (congrArg (AT X G W _ _) (Fin.ext (by dsimp only; omega)))

theorem kv_eq (y : S8x2048x2x16x64.Idx) : val_main_v25 (F := Ideal) X G W y = AT X G W (y 0) (y 1)
    (gcol 2 (by decide) (part (1 + (y 2).val) (y 3).val (y 4).val (by have : (y 2).val < 2 := (y 2).isLt; omega) (y 3).isLt (y 4).isLt)) := by
  pointwise [val_main_v25, val_main_v24, split_eq, gcol, part]
  exact congrArg (AT X G W _ _) (Fin.ext (by dsimp only; omega))

theorem all_eq (y : S8x2048x3x16x64.Idx) : val_main_v27 (F := Ideal) X G W y
    = if (y 2).val < 1 then AT X G W (y 0) (y 1) (gcol 2 (by decide) (part (y 2).val (y 3).val (y 4).val (y 2).isLt (y 3).isLt (y 4).isLt)) * QS
      else AT X G W (y 0) (y 1) (gcol 2 (by decide) (part (y 2).val (y 3).val (y 4).val (y 2).isLt (y 3).isLt (y 4).isLt)) := by
  pointwise [val_main_v27, query_eq, kv_eq]
  by_cases h : (y 2).val < 1
  · rw [dif_pos h, if_pos h]
    exact congrArg (· * QS) (congrArg (AT X G W _ _) (Fin.ext (by simp only [gcol, part]; omega)))
  · rw [dif_neg h, if_neg h]
    exact congrArg (AT X G W _ _) (Fin.ext (by simp only [gcol, part]; omega))

theorem row_eq (y : S8x2048x3072.Idx) : val_main_v28 (F := Ideal) X G W y
    = if (y 2).val < 1024 then AT X G W (y 0) (y 1) (gcol 2 (by decide) (y 2)) * QS
      else AT X G W (y 0) (y 1) (gcol 2 (by decide) (y 2)) := by
  unfold val_main_v28
  have hy : (y 2).val < 3072 := (y 2).isLt
  pointwise [all_eq, gcol, part]
  by_cases h : (y 2).val < 1024
  · rw [if_pos h, if_pos (by omega)]
    exact congrArg (· * QS) (congrArg (AT X G W _ _) (Fin.ext (by dsimp only; omega)))
  · rw [if_neg h, if_neg (by omega)]
    exact congrArg (AT X G W _ _) (Fin.ext (by dsimp only; omega))

/-- The position of the `m`-th row of residue class `r`. -/
def whole (r : Fin 16) (m : Fin 128) : Fin 2048 := ⟨16 * m.val + r.val, by omega⟩

theorem rows_eq (y : S8x16x128x3072.Idx) : val_main_v31 (F := Ideal) X G W y
    = if (y 3).val < 1024 then AT X G W (y 0) (whole (y 1) (y 2)) (gcol 2 (by decide) (y 3)) * QS
      else AT X G W (y 0) (whole (y 1) (y 2)) (gcol 2 (by decide) (y 3)) := by
  have e : idx_main_v29 (idx_main_v30 y) = ix3 (y 0) (whole (y 1) (y 2)) (y 3) := by
    have h0 : (y 0).val < 8 := (y 0).isLt
    have h1 : (y 1).val < 16 := (y 1).isLt
    have h2 : (y 2).val < 128 := (y 2).isLt
    have h3 : (y 3).val < 3072 := (y 3).isLt
    funext a
    refine Fin.ext ?_
    match a with
    | ⟨0, _⟩ => show ((((y 0).val * 128 + (y 2).val) * 16 + (y 1).val) * 3072 + (y 3).val) / 6291456 = (y 0).val; omega
    | ⟨1, _⟩ => show ((((y 0).val * 128 + (y 2).val) * 16 + (y 1).val) * 3072 + (y 3).val) / 3072 % 2048 = 16 * (y 2).val + (y 1).val; omega
    | ⟨2, _⟩ => show ((((y 0).val * 128 + (y 2).val) * 16 + (y 1).val) * 3072 + (y 3).val) % 3072 = (y 3).val; omega
  rw [val_main_v31_apply, val_main_v30_apply, val_main_v29_apply, e]
  exact row_eq X G W (ix3 (y 0) (whole (y 1) (y 2)) (y 3))

theorem kept_eq (y : S8x2048x2048.Idx) : val_main_v32 (F := Ideal) X G W y
    = AT X G W (y 0) (y 1)
      (gcol 2 (by decide) ⟨1024 + (y 2).val, by have : (y 2).val < 2048 := (y 2).isLt; omega⟩) := by
  have hy : (y 2).val < 2048 := (y 2).isLt
  pointwise [val_main_v32, kv_eq, gcol, part]
  exact congrArg (AT X G W _ _) (Fin.ext (by dsimp only; omega))

end Cert.Reference10Ideal.Attn

end
-- ==== Proof.AttnC.lean ====
/- The prompt's projection in front of the attention, third group: what the call leaves, row by row. -/
module

public import proofs.«01_k».proof.Proof.Gen.Kernel10Ideal.Value
public import proofs.«01_k».proof.Proof.AttnRefC

@[expose] public section

set_option maxRecDepth 16384

noncomputable section

open Idealize.ShloMosaic Idealize.ShloMosaic.TcCoe Idealize.SL.Sem
open Idealize.ShloMosaic.Pipeline (Dat)

namespace Cert.Kernel10Ideal.Attn

open Cert.Kernel10Ideal Cert.Kernel10Ideal.Gen Cert.Rows

variable (m : (ℓ : Loc nD τ sig) → Buf (Elt Ideal) ℓ)

/-- Where every window's block sits at a grid point. -/
theorem idx_val : ∀ t : Fin cfg0.N, t.val < 16 ∧ win0_0.index t = ![t.val / 2, t.val % 2, 0] ∧ win0_1.index t = ![0, 0]
    ∧ win0_2.index t = ![0, 0, 2] ∧ win0_3.index t = ![t.val / 2, 0, t.val % 2, 0] ∧ win0_4.index t = ![t.val / 2, t.val % 2, 0] :=
  (by decide +kernel : ∀ t : Fin grid0.N, _)

/-- The weights the call reads: every column times its factor. -/
theorem weights (c : Dev nD) : (V m c main_v12 : FVec Ideal S1x1024x9216 .bf16)
    = truncf .bf16 (mulf (m ((c : Thread nD τ).loc main_arg2)) (broadcastInDim S1x1024x9216 ![0, 1, 2] bcast_S1x1x9216_S1x1024x9216_0_1_2
        (broadcastInDim S1x1x9216 ![2] bcast_S9216_S1x1x9216_2 Cert.Kernel7Ideal.Samp.SCALE))) bitsLt_bf16_f32 := by
  unfold V
  simp only [hostOps0, hostOps0_1, hostOps0_2, hostOps0_3, hostOps0_4, List.flatten_cons, List.flatten_nil, List.append_nil, List.cons_append, List.nil_append]
  after_results
  rfl

/-- The norm the call reads. -/
theorem norm (c : Dev nD) : (V m c main_v11 : FVec Ideal S1x1024 .f32)
    = fun y => (m ((c : Thread nD τ).loc main_arg1) : FVec Ideal S4x4x1024 .f32) (ix3 2 0 (y 1)) := by
  unfold V
  simp only [hostOps0, hostOps0_1, hostOps0_2, hostOps0_3, hostOps0_4, List.flatten_cons, List.flatten_nil, List.append_nil, List.cons_append, List.nil_append]
  after_results
  funext y
  pointwise []

/-- A row of a grid point's block after the projection. -/
def ROW (X : FVec Ideal S1x1024x1024 .f32) (G : FVec Ideal S1x1024 .f32) (W : FVec Ideal S1x1024x3072 .bf16)
    (i : Fin 1024) : Fin 3072 → EReal :=
  times (rms (fun j => X (ix3 0 i j)) (fun j => G (ix2 0 j))) (fun k j => W (ix3 0 k j))

/-- A strided read of the scratch, at an index. -/
theorem read_slot (L : List (View.Piece (Elt Ideal) S4x1024x128 .f32)) (s r : Nat) (hs : s < 4) (hr : r < 4) (inb)
    (a : Fin 256) (b : Fin 128) : (View.whole cc0_scratch0).readCov L
      (⟨![s, r, 0], ![1, 256, 128], ![1, 4, 1], inb⟩ : LoadRect S4x1024x128) (ix3 0 a b)
    = View.canon L (ix3 ⟨s, hs⟩ ⟨r + 4 * a.val, by omega⟩ b) := by
  rw [View.readCov_eq_canon']
  refine congrArg (View.canon L) (funext fun q => Fin.ext ?_)
  match q with
  | ⟨0, _⟩ => show s + 1 * 0 = s; omega
  | ⟨1, _⟩ => rfl
  | ⟨2, _⟩ => show 0 + 1 * b.val = b.val; omega

/-- A slot of the scratch holds what was last written to it; -/
theorem slot_hit (L : List (View.Piece (Elt Ideal) S4x1024x128 .f32)) (s : Nat) (hs : s < 4) (inb)
    (w : S1x1024x128.Idx → Elt Ideal .f32) (i : Fin 1024) (l : Fin 128) :
    View.canon ((⟨Rect.unit (s := S4x1024x128) ![s, 0, 0] ![1, 1024, 128] inb, w⟩ : View.Piece (Elt Ideal) S4x1024x128 .f32) :: L)
      (ix3 ⟨s, hs⟩ i l) = w (ix3 0 i l) := by
  refine Eq.trans (congrArg _ ?_) (View.canon_cons_emb (Rect.unit (s := S4x1024x128) ![s, 0, 0] ![1, 1024, 128] inb) w L (ix3 0 i l))
  refine funext fun a => Fin.ext ?_
  match a with
  | ⟨0, _⟩ => show s = s + 1 * 0; omega
  | ⟨1, _⟩ => show i.val = 0 + 1 * i.val; omega
  | ⟨2, _⟩ => show l.val = 0 + 1 * l.val; omega

/-- writes to the other slots leave it. -/
theorem slot_miss (L : List (View.Piece (Elt Ideal) S4x1024x128 .f32)) (s s' : Nat) (h : s < s' ∨ s' < s) (hs : s < 4) (inb)
    (w : S1x1024x128.Idx → Elt Ideal .f32) (i : Fin 1024) (l : Fin 128) :
    View.canon ((⟨Rect.unit (s := S4x1024x128) ![s', 0, 0] ![1, 1024, 128] inb, w⟩ : View.Piece (Elt Ideal) S4x1024x128 .f32) :: L)
      (ix3 ⟨s, hs⟩ i l) = View.canon L (ix3 ⟨s, hs⟩ i l) := by
  refine View.canon_cons_of_not_mem _ L fun hm => ?_
  obtain ⟨z, hz⟩ := (Rect.unit (s := S4x1024x128) ![s', 0, 0] ![1, 1024, 128] inb).exists_idx_of_mem hm
  have h0 : (z 0).val < 1 := (z 0).isLt
  have : s' + 1 * (z 0).val = s := congrArg (fun q : S4x1024x128.Idx => (q 0).val) hz
  omega

/-- The same of the second scratch, every fourth row from `o` on. -/
theorem read_tmp (L : List (View.Piece (Elt Ideal) S4x1024x128 .f32)) (s o : Nat) (hs : s < 4) (ho : o ≤ 771) (inb)
    (a : Fin 64) (b : Fin 128) : (View.whole cc0_scratch1).readCov L
      (⟨![s, o, 0], ![1, 64, 128], ![1, 4, 1], inb⟩ : LoadRect S4x1024x128) (ix3 0 a b)
    = View.canon L (ix3 ⟨s, hs⟩ ⟨o + 4 * a.val, by omega⟩ b) := by
  rw [View.readCov_eq_canon']
  refine congrArg (View.canon L) (funext fun q => Fin.ext ?_)
  match q with
  | ⟨0, _⟩ => show s + 1 * 0 = s; omega
  | ⟨1, _⟩ => rfl
  | ⟨2, _⟩ => show 0 + 1 * b.val = b.val; omega

/-- A quarter of a slot of the second scratch holds what was last written to it; -/
theorem tmp_hit (L : List (View.Piece (Elt Ideal) S4x1024x128 .f32)) (s q o : Nat) (hq : q ≤ o ∧ o ≤ q + 3 ∧ o ≤ 771) (hs : s < 4) (inb)
    (w : S1x256x128.Idx → Elt Ideal .f32) (a : Fin 64) (hb : o + 4 * a.val < 1024) (l : Fin 128) :
    View.canon ((⟨Rect.unit (s := S4x1024x128) ![s, q, 0] ![1, 256, 128] inb, w⟩ : View.Piece (Elt Ideal) S4x1024x128 .f32) :: L)
      (ix3 ⟨s, hs⟩ ⟨o + 4 * a.val, hb⟩ l) = w (ix3 0 ⟨o + 4 * a.val - q, by omega⟩ l) := by
  refine Eq.trans (congrArg _ ?_) (View.canon_cons_emb (Rect.unit (s := S4x1024x128) ![s, q, 0] ![1, 256, 128] inb) w L
    (ix3 0 ⟨o + 4 * a.val - q, by omega⟩ l))
  refine funext fun z => Fin.ext ?_
  match z with
  | ⟨0, _⟩ => show s = s + 1 * 0; omega
  | ⟨1, _⟩ => show o + 4 * a.val = q + 1 * (o + 4 * a.val - q); omega
  | ⟨2, _⟩ => show l.val = 0 + 1 * l.val; omega

/-- writes to the other quarters leave it. -/
theorem tmp_miss (L : List (View.Piece (Elt Ideal) S4x1024x128 .f32)) (s s' q o : Nat) (h : s < s' ∨ s' < s ∨ o + 252 < q ∨ q + 256 ≤ o)
    (hs : s < 4) (inb) (w : S1x256x128.Idx → Elt Ideal .f32) (a : Fin 64) (hb : o + 4 * a.val < 1024) (l : Fin 128) :
    View.canon ((⟨Rect.unit (s := S4x1024x128) ![s', q, 0] ![1, 256, 128] inb, w⟩ : View.Piece (Elt Ideal) S4x1024x128 .f32) :: L)
      (ix3 ⟨s, hs⟩ ⟨o + 4 * a.val, hb⟩ l) = View.canon L (ix3 ⟨s, hs⟩ ⟨o + 4 * a.val, hb⟩ l) := by
  refine View.canon_cons_of_not_mem _ L fun hm => ?_
  obtain ⟨z, hz⟩ := (Rect.unit (s := S4x1024x128) ![s', q, 0] ![1, 256, 128] inb).exists_idx_of_mem hm
  have h0 : (z 0).val < 1 := (z 0).isLt
  have h1 : (z 1).val < 256 := (z 1).isLt
  have e0 : s' + 1 * (z 0).val = s := congrArg (fun q : S4x1024x128.Idx => (q 0).val) hz
  have e1 : q + 1 * (z 1).val = o + 4 * a.val := congrArg (fun q : S4x1024x128.Idx => (q 1).val) hz
  omega

/-- What is copied from one scratch to the other. -/
theorem copy_eq (v : Vec Ideal S1x256x128 .f32) (a : Fin 256) (l : Fin 128) :
    (shapeCast S1x256x128 (shapeCast S256x128 v shapeCasts_S1x256x128_S256x128) shapeCasts_S256x128_S1x256x128 : FVec Ideal S1x256x128 .f32)
      (ix3 0 a l) = v (ix3 0 a l) := by
  pointwise []

/-- What a store of the strided read puts at an index. -/
theorem cast_eq (v : Vec Ideal S1x64x128 .f32) (x : S1x1x64x128.Idx) :
    (shapeCast S1x1x64x128 (truncf .bf16 (shapeCast S64x128 v shapeCasts_S1x64x128_S64x128) bitsLt_bf16_f32)
      shapeCasts_S64x128_S1x1x64x128 : FVec Ideal S1x1x64x128 .bf16) x = v (ix3 0 (x 2) (x 3)) := by
  pointwise []

/-- Half a product against 256 columns, at an index. -/
theorem half_eq (X : Vec Ideal S1x1024x1024 .f32) (G : Vec Ideal S1x1024 .f32) (w : Vec Ideal S1x1024x256 .bf16)
    (o : Nat) (ho : o ≤ 128) (hs) (i : Fin 1024) (l : Fin 128) :
    (shapeCast S1x1024x128 (extractStridedSlice S1024x128 ![0, o] (matmul (F := Ideal) dot_S1024x1024_S1024x256_S1024x256_1_0_0_1_n_n none
      (k0_pay4 X G) (shapeCast S1024x256 w shapeCasts_S1x1024x256_S1024x256 : FVec Ideal S1024x256 .bf16)
      (constant S1024x256 .f32 0x00000000#32)) hs) shapeCasts_S1024x128_S1x1024x128 : FVec Ideal S1x1024x128 .f32) (ix3 0 i l)
    = times (rms (fun j => X (ix3 0 i j)) (fun j => G (ix2 0 j))) (fun k j => w (ix3 0 k j)) ⟨o + l.val, by omega⟩ := by
  open_payloads; pointwise [times, rms]

/-- The 256 columns read from column `c` on. -/
theorem cols_eq (X : Vec Ideal S1x1024x1024 .f32) (G : Vec Ideal S1x1024 .f32) (W : Vec Ideal S1x1024x3072 .bf16)
    (c : Nat) (hc : c ≤ 2816) (inb) (i : Fin 1024) (j : Fin 256) :
    times (rms (fun j => X (ix3 0 i j)) (fun j => G (ix2 0 j)))
      (fun k j => View.ld W (Rect.unit (s := S1x1024x3072) ![0, 0, c] ![1, 1024, 256] inb) (ix3 0 k j)) j
    = ROW X G W i ⟨c + j.val, by omega⟩ := by
  pointwise [ROW, times, rms]

/-- What a grid point leaves in the block of keys and values: all its rows. -/
theorem kept_eq (c : Dev nD) (t : Fin cfg0.N) (y : S1x1024x2048.Idx) : (outsAt0 (F := Ideal) m c t).2 y
    = ROW (iblk m c 0 t) (iblk m c 1 t) (iblk m c 2 t) (y 1)
      ⟨1024 + (y 2).val, by have : (y 2).val < 2048 := (y 2).isLt; omega⟩ := by
  unfold outsAt0
  dsimp only
  frame_out
  generalize iblk m c 0 t = X
  generalize iblk m c 1 t = G
  generalize iblk m c 2 t = W
  canon_tiles x h
  all_goals (open_payloads; pointwise [ROW, times, rms]; blk_point [])

theorem norm_in (c : Dev nD) (t : Fin cfg0.N) (j : Fin 1024) : iblk m c 1 t (ix2 0 j)
    = (m ((c : Thread nD τ).loc main_arg1) : FVec Ideal S4x4x1024 .f32) (ix3 2 0 j) := by
  rw [show iblk m c 1 t (ix2 0 j) = (V m c main_v11 : FVec Ideal S1x1024 .f32) (((cfg0.win 1).blk t).view.emb (ix2 0 j)) from rfl, norm]
  blk_point [idx_val t]

theorem weights_in (c : Dev nD) (t : Fin cfg0.N) (k : Fin 1024) (j : Fin 3072) : iblk m c 2 t (ix3 0 k j)
    = (V m c main_v12 : FVec Ideal S1x1024x9216 .bf16) (ix3 0 k (gcol 2 (by decide) j)) := by
  rw [show iblk m c 2 t (ix3 0 k j) = (V m c main_v12 : FVec Ideal S1x1024x9216 .bf16) (((cfg0.win 2).blk t).view.emb (ix3 0 k j)) from rfl]
  generalize (V m c main_v12 : FVec Ideal S1x1024x9216 .bf16) = W
  blk_point [idx_val t, gcol]

theorem first_in (c : Dev nD) (t : Fin cfg0.N) (i : Fin 1024) (j : Fin 1024) : iblk m c 0 t (ix3 0 i j)
    = (m ((c : Thread nD τ).loc main_arg0) : FVec Ideal S8x2048x1024 .f32)
        (ix3 ⟨t.val / 2, by have := (idx_val t).1; omega⟩ ⟨1024 * (t.val % 2) + i.val, by omega⟩ j) := by
  blk_point [iblk, V, idx_val t]

/-- The array of keys and values after a run. -/
theorem final_kept (c : Dev nD) : (dats m 0 c).arrAt 4 cfg0.N = fun y : S8x2048x2048.Idx =>
    times (rms (fun k => (m ((c : Thread nD τ).loc main_arg0) : FVec Ideal S8x2048x1024 .f32) (ix3 (y 0) (y 1) k))
      (fun k => (m ((c : Thread nD τ).loc main_arg1) : FVec Ideal S4x4x1024 .f32) (ix3 2 0 k)))
      (fun k j => (V m c main_v12 : FVec Ideal S1x1024x9216 .bf16) (ix3 0 k j)) (gcol 2 (by decide) ⟨1024 + (y 2).val, by have : (y 2).val < 2048 := (y 2).isLt; omega⟩) := by
  refine (dats m 0 c).arrAt_eq_of_covers 4 _ (by decide +kernel) fun t hfl y => ?_
  blk_simp
  rw [after0_4, kept_eq]
  unfold ROW
  have h0 := fun j => first_in m c t (y 1) j
  simp only [h0, norm_in m c t, weights_in m c t, times]
  generalize (V m c main_v12 : FVec Ideal S1x1024x9216 .bf16) = W
  blk_point [idx_val t, gcol]

/-- A column of the scaled weights is the column times its scale. -/
theorem weight_at (c : Dev nD) (W : FVec Ideal S1x1024x9216 .f32) (hW : W = m ((c : Thread nD τ).loc main_arg2)) (k : Fin 1024) (j : Fin 9216) :
    (V m c main_v12 : FVec Ideal S1x1024x9216 .bf16) (ix3 0 k j) = W (ix3 0 k j) * Cert.Kernel7Ideal.Samp.SCALE (ix1 j) := by
  rw [weights, ← hW]
  generalize Cert.Kernel7Ideal.Samp.SCALE = s
  pointwise []

/-- The array of keys and values is the reference's. -/
theorem kept_ref (c : Dev nD) : (dats m 0 c).arrAt 4 cfg0.N = Cert.Reference10Ideal.Read.val_main_v32 (F := Ideal)
    (m ((c : Thread nD τ).loc main_arg0)) (m ((c : Thread nD τ).loc main_arg1)) (m ((c : Thread nD τ).loc main_arg2)) := by
  rw [final_kept]
  funext y
  refine Eq.trans ?_ (Cert.Reference10Ideal.Attn.kept_eq _ _ _ y).symm
  have hy : (y 2).val < 2048 := (y 2).isLt
  exact times_plain _ _ _ _ _ (fun k => weight_at m c _ rfl k _)
    (Cert.Kernel7Ideal.Samp.scale_eq _ (show 1024 ≤ (2 * 3072 + (1024 + (y 2).val)) % 3072 by omega))

end Cert.Kernel10Ideal.Attn

end
-- ==== Proof.AttnD.lean ====
/- The prompt's projection in front of the attention, third group: the array of rows, gathered through two scratch buffers. -/
module

public import proofs.«01_k».proof.Proof.AttnC

@[expose] public section

set_option maxRecDepth 16384

noncomputable section

open Idealize.ShloMosaic Idealize.ShloMosaic.TcCoe Idealize.SL.Sem
open Idealize.ShloMosaic.Pipeline (Dat)

namespace Cert.Kernel10Ideal.Attn

open Cert.Kernel10Ideal Cert.Kernel10Ideal.Gen Cert.Rows

variable (m : (ℓ : Loc nD τ sig) → Buf (Elt Ideal) ℓ)

set_option maxHeartbeats 8000000 in
/-- What a grid point leaves in the block of rows: row `m` of residue class `r` is its row `16 m + r`. -/
theorem rows_eq (c : Dev nD) (t : Fin cfg0.N) (y : S1x16x64x3072.Idx) : (outsAt0 (F := Ideal) m c t).1 y
    = ROW (iblk m c 0 t) (iblk m c 1 t) (iblk m c 2 t)
      ⟨16 * (y 2).val + (y 1).val, by have : (y 1).val < 16 := (y 1).isLt; have : (y 2).val < 64 := (y 2).isLt; omega⟩ (y 3) := by
  unfold outsAt0
  dsimp only
  generalize iblk m c 0 t = X
  generalize iblk m c 1 t = G
  generalize iblk m c 2 t = W
  revert X G W
  show ∀ (X : Vec Ideal S1x1024x1024 .f32) (G : Vec Ideal S1x1024 .f32) (W : Vec Ideal S1x1024x3072 .bf16), _
  intro X G W
  frame_out
  canon_tiles x h using View.cover_of_tiledL (s := S1x16x64x3072) _ S1x1x64x128.size (by sl_kernel_rfl) _
  all_goals
    refine (cast_eq _ x).trans ?_
    refine (read_tmp _ _ _ ?_ ?_ _ _ _).trans ?_
    on_goal 1 => decide
    on_goal 1 => decide
    repeat refine (tmp_miss _ _ _ _ _ (by decide) _ _ _ _ _ _).trans ?_
    refine (tmp_hit _ _ _ _ ?_ _ _ _ _ _ _).trans ?_
    on_goal 1 => decide
    try dsimp only [k0_pay12, k0_pay13, k0_pay14, k0_pay15, k0_pay34, k0_pay35, k0_pay36, k0_pay37, k0_pay59, k0_pay60, k0_pay61, k0_pay62, k0_pay63,
      k0_pay82, k0_pay83, k0_pay84, k0_pay85, k0_pay108, k0_pay109, k0_pay110, k0_pay111, k0_pay130, k0_pay131, k0_pay132,
      k0_pay133, k0_pay134, k0_pay157, k0_pay158, k0_pay159, k0_pay160, k0_pay161, k0_pay180, k0_pay181, k0_pay182, k0_pay183,
      k0_pay206, k0_pay207, k0_pay208, k0_pay209, k0_pay210, k0_pay229, k0_pay230, k0_pay231, k0_pay232, k0_pay256, k0_pay257,
      k0_pay258, k0_pay259, k0_pay278, k0_pay279, k0_pay280, k0_pay281, k0_pay303, k0_pay304, k0_pay305, k0_pay306, k0_pay325,
      k0_pay326, k0_pay327, k0_pay328, k0_pay329, k0_pay352, k0_pay353, k0_pay354, k0_pay355, k0_pay374, k0_pay375, k0_pay376,
      k0_pay377, k0_pay378, k0_pay401, k0_pay402, k0_pay403, k0_pay404, k0_pay405, k0_pay424, k0_pay425, k0_pay426, k0_pay427,
      k0_pay450, k0_pay451, k0_pay452, k0_pay453, k0_pay473, k0_pay474, k0_pay475, k0_pay476, k0_pay500, k0_pay501, k0_pay502,
      k0_pay503, k0_pay504, k0_pay523, k0_pay524, k0_pay525, k0_pay526, k0_pay545, k0_pay546, k0_pay547, k0_pay548, k0_pay549,
      k0_pay568, k0_pay569, k0_pay570, k0_pay571, k0_pay572]
    refine (copy_eq _ _ _).trans ?_
    refine (read_slot _ _ _ ?_ ?_ _ _ _).trans ?_
    on_goal 1 => decide
    on_goal 1 => decide
    repeat refine (slot_miss _ _ _ (by decide) _ _ _ _ _).trans ?_
    refine (slot_hit _ _ _ _ _ _ _).trans ?_
    refine (half_eq X G _ _ ?_ ?_ _ _).trans ?_
    on_goal 1 => decide
    try first | exact slices_S1024x256_o0_0_S1024x128 | exact slices_S1024x256_o0_128_S1024x128
    refine (cols_eq X G W _ ?_ _ _ _).trans ?_
    on_goal 1 => decide
    exact congrArg₂ (ROW X G W) (Fin.ext (by dsimp only; omega)) (Fin.ext (by dsimp only; omega))

/-- The array of rows after a run. -/
theorem final_rows (c : Dev nD) : (dats m 0 c).arrAt 3 cfg0.N = fun y : S8x16x128x3072.Idx =>
    times (rms (fun k => (m ((c : Thread nD τ).loc main_arg0) : FVec Ideal S8x2048x1024 .f32) (ix3 (y 0) (Cert.Reference10Ideal.Attn.whole (y 1) (y 2)) k))
      (fun k => (m ((c : Thread nD τ).loc main_arg1) : FVec Ideal S4x4x1024 .f32) (ix3 2 0 k)))
      (fun k j => (V m c main_v12 : FVec Ideal S1x1024x9216 .bf16) (ix3 0 k j)) (gcol 2 (by decide) (y 3)) := by
  refine (dats m 0 c).arrAt_eq_of_covers 3 _ (by decide +kernel) fun t hfl y => ?_
  blk_simp
  rw [after0_3, rows_eq]
  unfold ROW
  have h0 := fun j => first_in m c t ⟨16 * (y 2).val + (y 1).val, by have : (y 1).val < 16 := (y 1).isLt; have : (y 2).val < 64 := (y 2).isLt; omega⟩ j
  have h2 := fun k => weights_in m c t k (y 3)
  simp only [h0, h2, norm_in m c t, times]
  generalize (V m c main_v12 : FVec Ideal S1x1024x9216 .bf16) = W
  blk_point [idx_val t, gcol, Cert.Reference10Ideal.Attn.whole]

/-- The array of rows is the reference's. -/
theorem rows_ref (c : Dev nD) : (dats m 0 c).arrAt 3 cfg0.N = Cert.Reference10Ideal.Read.val_main_v31 (F := Ideal)
    (m ((c : Thread nD τ).loc main_arg0)) (m ((c : Thread nD τ).loc main_arg1)) (m ((c : Thread nD τ).loc main_arg2)) := by
  rw [final_rows]
  funext y
  refine Eq.trans ?_ (Cert.Reference10Ideal.Attn.rows_eq _ _ _ y).symm
  have hy : (y 3).val < 3072 := (y 3).isLt
  by_cases h : (y 3).val < 1024
  · rw [if_pos h]
    exact times_query _ _ _ _ _ (fun k => weight_at m c _ rfl k _)
      (Cert.Kernel7Ideal.Samp.scale_q _ (show (2 * 3072 + (y 3).val) % 3072 < 1024 by omega))
  · rw [if_neg h]
    exact times_plain _ _ _ _ _ (fun k => weight_at m c _ rfl k _)
      (Cert.Kernel7Ideal.Samp.scale_eq _ (show 1024 ≤ (2 * 3072 + (y 3).val) % 3072 by omega))

end Cert.Kernel10Ideal.Attn

end
-- ==== Proof.ProjTerm.lean ====
module

public import proofs.«01_k».proof.Proof.Gen.Reference3Ideal.Run
public import Idealize.ShloMosaic.Lib.Pointwise

@[expose] public section

set_option maxRecDepth 16384

noncomputable section

namespace Cert.Reference3Ideal.Term

open Cert.Reference3Ideal Cert.Reference3Ideal.Gen Idealize.ShloMosaic Idealize.ShloMosaic.TcCoe

/-- What the reference of the projection computes, as one term of its three arguments. -/
def PROJ (X : FVec Ideal S16384x1024 .f32) (G : FVec Ideal S4x4x1024 .f32) (W : FVec Ideal S2x1024x6144 .f32) :
    FVec Ideal S16384x6144 .bf16 :=
  truncf .bf16 (Host.dotGeneral dot_S16384x1024_S1024x6144_S16384x6144_1_0_0_1_n_n none (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![0, 0] (shapeCast _ (extractStridedSlice S1x4x1024 ![3, 0, 0] G slices_S4x4x1024_S1x4x1024_3_0_0) shapeCasts_S1x4x1024_S4x1024) slices_S4x1024_S1x1024_0_0) shapeCasts_S1x1024_S1024)))) (shapeCast _ (extractStridedSlice S1x1024x6144 ![1, 0, 0] W slices_S2x1024x6144_S1x1024x6144_1_0_0) shapeCasts_S1x1024x6144_S1024x6144)) bitsLt_bf16_f32

end Cert.Reference3Ideal.Term

end
-- ==== Proof.Proj.lean ====
module

public import proofs.«01_k».proof.Proof.Gen.Kernel3Ideal.Value
public import proofs.«01_k».proof.Proof.ProjTerm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen Cert.Reference3Ideal.Term

variable (m : (ℓ : Loc nD τ sig) → Buf (Elt Ideal) ℓ)

/-- Where every window's block sits at a grid point. -/
theorem idx_val : ∀ t : Fin cfg0.N, t.val < 16 ∧ win0_0.index t = ![t.val, 0] ∧ win0_1.index t = ![0, 0]
    ∧ win0_2.index t = ![1, 0, 0] ∧ win0_3.index t = ![t.val, 0] :=
  (by decide +kernel : ∀ t : Fin grid0.N, _)

/-- The block of the projection one grid point leaves: the normed rows times the weights. -/
def BLOCK (X : FVec Ideal S1024x1024 .f32) (G : FVec Ideal S1x1024 .f32) (W : FVec Ideal S1x1024x6144 .bf16) :
    FVec Ideal S1024x6144 .bf16 := fun y =>
  ∑ k : Fin 1024, k0_pay5 (F := Ideal) X G (ix2 (y 0) k) * W (ix3 0 k (y 1))

/-- The twelve column tiles a grid point stores are that block. -/
theorem out_eq (X : FVec Ideal S1024x1024 .f32) (G : FVec Ideal S1x1024 .f32) (W : FVec Ideal S1x1024x6144 .bf16)
    (y : S1024x6144.Idx) : out0_3 (F := Ideal) X G W y = BLOCK X G W y := by
  canon_tiles x h
  all_goals (open_payloads; pointwise [BLOCK, k0_pay5]; blk_point [])

/-- The block of a grid point is the reference's term at the rows the point covers. -/
theorem point (c : Dev nD) (t : Fin cfg0.N) (y : S1024x6144.Idx) :
    BLOCK (iblk m c 0 t) (iblk m c 1 t) (iblk m c 2 t) y
      = PROJ (m ((c : Thread nD τ).loc main_arg0)) (m ((c : Thread nD τ).loc main_arg1))
          (m ((c : Thread nD τ).loc main_arg2)) (((cfg0.win 3).blk t).view.emb y) := by
  pointwise [BLOCK, k0_pay5, PROJ]
  blk_point [iblk, V, idx_val t]

/-- The projection's array after the run is the reference's term of the arguments. -/
theorem final (c : Dev nD) : (dats m 0 c).arrAt 3 cfg0.N
    = PROJ (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, out_eq]
  exact point m c t y

end Cert.Kernel3Ideal.Proj

end
-- ==== Proof.Decay.lean ====
/- The decay of each head as a real number, the three ways a table of its powers is spelled, and the normalised, gated row. -/
module

public import Idealize.ShloMosaic.Lib.Pointwise
public import Mathlib.Algebra.BigOperators.Fin

@[expose] public section

noncomputable section

open Idealize.ShloMosaic

namespace Cert.Ret

/-- The single-precision constant the programs multiply by to take a power of two. -/
def ln2 : ℝ := 11629080 / 16777216

/-- The logarithm of head `h`'s decay. -/
def lg (h : ℕ) : ℝ := Real.log (1 - Real.exp (ln2 * (-5 - h)))

/-- Head `h`'s decay. -/
def gam (h : ℕ) : ℝ := Real.exp (lg h)

theorem sitofp_nat (n : ℕ) (hn : n < 2 ^ 31) : (FloatOps.sitofp .f32 (BitVec.ofNat 32 n) : Ideal .f32) = ((n : ℝ) : EReal) := by
  show (((BitVec.ofNat 32 n).toInt : ℝ) : EReal) = _
  rw [BitVec.toInt_eq_toNat_of_lt (by rw [BitVec.toNat_ofNat, Nat.mod_eq_of_lt (by omega)]; omega), BitVec.toNat_ofNat,
    Nat.mod_eq_of_lt (by omega)]
  rfl

theorem ofBits_ln2 : Ideal.ofBits .f32 0x3F317218#32 = ((ln2 : ℝ) : EReal) := by
  unfold ln2
  simp [Ideal.ofBits, Ideal.ieee, -EReal.coe_mul]; norm_num

theorem ofBits_five : Ideal.ofBits .f32 0xC0A00000#32 = ((-5 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_255 : Ideal.ofBits .f32 0x437F0000#32 = ((255 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem sixteenth_bf16 : Ideal.ofBits .bf16 0x3D80#16 = ((1 / 16 : ℝ) : EReal) := by
  simp [Ideal.ofBits, Ideal.ieee, -EReal.coe_mul]; norm_num

/-- The logarithm of the decay, as both programs compute it. -/
theorem log_gam (h : ℕ) :
    Ideal.log1p (-Ideal.exp (Ideal.ofBits .f32 0x3F317218#32
      * (Ideal.ofBits .f32 0xC0A00000#32 - ((h : ℝ) : EReal)))) = ((lg h : ℝ) : EReal) := by
  have hlt : Real.exp (ln2 * (-5 - h)) < 1 := by
    rw [Real.exp_lt_one_iff]
    have : (0 : ℝ) ≤ h := Nat.cast_nonneg h
    unfold ln2
    nlinarith
  rw [ofBits_ln2, ofBits_five, ← EReal.coe_sub, ← EReal.coe_mul, Ideal.exp_coe, ← EReal.coe_neg, Ideal.log1p,
    ← EReal.coe_one, ← EReal.coe_add, Ideal.log_coe, if_neg (not_le.mpr (by linarith)), lg, sub_eq_add_neg 1]

theorem pow_gam (h n : ℕ) : Ideal.exp (((n : ℝ) : EReal) * ((lg h : ℝ) : EReal)) = ((gam h ^ n : ℝ) : EReal) := by
  rw [← EReal.coe_mul, Ideal.exp_coe, gam, ← Real.exp_nat_mul]

/-- The carried state's decay at row `n` of a chunk. -/
theorem pow_succ_gam (h n : ℕ) :
    Ideal.exp ((((n : ℝ) : EReal) + 1 : EReal) * ((lg h : ℝ) : EReal)) = ((gam h ^ (n + 1) : ℝ) : EReal) := by
  rw [← EReal.coe_one, ← EReal.coe_add, ← Nat.cast_succ, pow_gam]

/-- Row `n`'s decay to the end of a chunk whose last row is `c`. -/
theorem pow_sub_gam (h n c : ℕ) (hc : n ≤ c) :
    Ideal.exp ((((c : ℝ) : EReal) - ((n : ℝ) : EReal) : EReal) * ((lg h : ℝ) : EReal)) = ((gam h ^ (c - n) : ℝ) : EReal) := by
  rw [← EReal.coe_sub, ← Nat.cast_sub hc, pow_gam]

/-- The decay between two rows of a chunk, nothing for a later row. -/
theorem decay_gam (h n k : ℕ) (o : EReal) (ho : o = 0) :
    (if (0 : EReal) ≤ ((n : ℝ) : EReal) - ((k : ℝ) : EReal)
      then Ideal.exp (max (((n : ℝ) : EReal) - ((k : ℝ) : EReal) : EReal) 0 * ((lg h : ℝ) : EReal))
      else o) = ((if k ≤ n then gam h ^ (n - k) else 0 : ℝ) : EReal) := by
  rw [← EReal.coe_sub]
  by_cases hkn : k ≤ n
  · rw [← Nat.cast_sub hkn, if_pos (EReal.coe_nonneg.mpr (Nat.cast_nonneg _)), max_eq_left (EReal.coe_nonneg.mpr (Nat.cast_nonneg _)),
      pow_gam, if_pos hkn]
  · rw [if_neg, if_neg hkn, ho, EReal.coe_zero]
    rw [EReal.coe_nonneg, sub_nonneg, Nat.cast_le]
    exact hkn

/-- The row mean of 512 entries. -/
def mean (o : Fin 512 → EReal) : EReal := Ideal.div (∑ e, o e) (Ideal.ofBits .f32 0x44000000#32)

/-- A row normalised to mean zero and unit variance, then gated. -/
def row (o : Fin 512 → EReal) (g : EReal) (e : Fin 512) : EReal :=
  (o e - mean o) * Ideal.rsqrt (mean (fun d => (o d - mean o) * (o d - mean o)) + Ideal.ofBits .f32 0x3727C5AC#32)
    * (g * Ideal.logistic g)

/-- A sum of reals, taken among the extended reals. -/
theorem coe_sum {n : ℕ} (f : Fin n → ℝ) : ((∑ i, f i : ℝ) : EReal) = ∑ i, ((f i : ℝ) : EReal) :=
  map_sum (⟨⟨((↑) : ℝ → EReal), EReal.coe_zero⟩, EReal.coe_add⟩ : ℝ →+ EReal) f Finset.univ

end Cert.Ret

end
-- ==== Proof.RetReal.lean ====
/- The retention as a recurrence over the reals: the state after every row, the outputs, and the two laws by which a
   chunk of rows of any length is worked at once. -/
module

public import Idealize.ShloMosaic.Lib.Pointwise
public import Mathlib.Algebra.BigOperators.Fin
public import Mathlib.Tactic.Ring

@[expose] public section

noncomputable section

namespace Cert.Ret

open Finset

variable (x : ℕ → ℕ → ℝ) (γ : ℝ) (r h : ℕ)

/-- The state of head `h` after `T` rows from row `r` on: every row decays it and adds its key times its value. -/
def state : ℕ → ℕ → ℕ → ℝ
  | 0, _, _ => 0
  | T + 1, a, e => γ * state T a e + x (r + T) (1024 + 256 * h + a) * x (r + T) (2048 + 512 * h + e)

/-- The output of row `r + t`: the scaled query against the state that includes the row. -/
def out (t e : ℕ) : ℝ :=
  ∑ a : Fin 256, (x (r + t) (256 * h + a) * (1 / 16)) * state x γ r h (t + 1) a e

theorem state_add (T c a e : ℕ) : state x γ r h (T + c) a e = γ ^ c * state x γ r h T a e
    + ∑ n ∈ range c, γ ^ (c - 1 - n) * (x (r + (T + n)) (1024 + 256 * h + a) * x (r + (T + n)) (2048 + 512 * h + e)) := by
  induction c with
  | zero => simp
  | succ c ih =>
    rw [← add_assoc, state, ih, sum_range_succ, mul_add, mul_sum]
    have : ∀ n ∈ range c, γ * (γ ^ (c - 1 - n) * (x (r + (T + n)) (1024 + 256 * h + a) * x (r + (T + n)) (2048 + 512 * h + e)))
        = γ ^ (c + 1 - 1 - n) * (x (r + (T + n)) (1024 + 256 * h + a) * x (r + (T + n)) (2048 + 512 * h + e)) := by
      intro n hn
      rw [← mul_assoc, ← pow_succ', show c - 1 - n + 1 = c + 1 - 1 - n by have := mem_range.mp hn; omega]
    rw [sum_congr rfl this]
    simp [pow_succ']
    ring

/-- A chunk of `c` rows takes the state to the state after them. -/
theorem chunk_state (T c a e : ℕ) : γ ^ c * state x γ r h T a e
    + ∑ n : Fin c, (x (r + (T + n)) (1024 + 256 * h + a) * γ ^ (c - 1 - n)) * x (r + (T + n)) (2048 + 512 * h + e)
    = state x γ r h (T + c) a e := by
  rw [state_add, ← Fin.sum_univ_eq_sum_range (fun n => γ ^ (c - 1 - n)
    * (x (r + (T + n)) (1024 + 256 * h + a) * x (r + (T + n)) (2048 + 512 * h + e)))]
  exact congrArg _ (sum_congr rfl fun n _ => by ring)

/-- Within a chunk, a row's output is its decayed scores against the chunk's values plus its query against the state
    the chunk started from. -/
theorem chunk_out (T c : ℕ) (n : Fin c) (e : ℕ) :
    ∑ m : Fin c, ((∑ a : Fin 256, (x (r + (T + n)) (256 * h + a) * (1 / 16)) * x (r + (T + m)) (1024 + 256 * h + a))
        * (if m.val ≤ n.val then γ ^ (n.val - m.val) else 0)) * x (r + (T + m)) (2048 + 512 * h + e)
      + (∑ a : Fin 256, (x (r + (T + n)) (256 * h + a) * (1 / 16)) * state x γ r h T a e) * γ ^ (n.val + 1)
    = out x γ r h (T + n) e := by
  unfold out
  have hs : ∀ a : Fin 256, state x γ r h (T + n + 1) a e = γ ^ (n.val + 1) * state x γ r h T a e
      + ∑ m : Fin c, (if m.val ≤ n.val then γ ^ (n.val - m.val) else 0)
          * (x (r + (T + m)) (1024 + 256 * h + a) * x (r + (T + m)) (2048 + 512 * h + e)) := by
    intro a
    rw [add_assoc, state_add]
    congr 1
    rw [Fin.sum_univ_eq_sum_range (fun m => (if m ≤ n.val then γ ^ (n.val - m) else 0)
          * (x (r + (T + m)) (1024 + 256 * h + a) * x (r + (T + m)) (2048 + 512 * h + e)))]
    refine (sum_congr rfl fun m hm => ?_).trans (sum_subset (range_mono (by omega)) fun m _ hm => ?_)
    · rw [if_pos (by have := mem_range.mp hm; omega), Nat.add_sub_cancel]
    · rw [if_neg (by have := mt mem_range.mpr hm; omega), zero_mul]
  simp only [hs, mul_add, sum_add_distrib, mul_sum, sum_mul]
  rw [add_comm, sum_comm]
  congr 1
  · exact sum_congr rfl fun a _ => by ring
  · exact sum_congr rfl fun a _ => sum_congr rfl fun m _ => by ring

end Cert.Ret

end
-- ==== Proof.Chunk.lean ====
/- One sub-chunk of 256 rows of one head, as the kernel works it: the state it hands on and the gated rows it writes. Every
   head's and every sub-chunk's arithmetic is one of the two functions `SC`, `OC` here. -/
module

public import proofs.«01_k».proof.Proof.Gen.KernelIdeal.Value
public import proofs.«01_k».proof.Proof.Decay
public import proofs.«01_k».proof.Proof.RetReal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Chunk

open Cert.KernelIdeal Cert.KernelIdeal.Gen Cert.Ret

abbrev KVec := Vec Ideal S256x256 .bf16
abbrev VVec := Vec Ideal S256x512 .bf16
abbrev SVec := FVec Ideal S256x512 .f32
abbrev DVec := Vec Ideal S1x256x256 .f32
abbrev CVec := Vec Ideal S1x256x1 .f32
abbrev GVec := Vec Ideal S1x1x1 .f32

/-- The state after a sub-chunk. -/
def SC (S : SVec) (k : KVec) (v : VVec) (z : CVec) (g : GVec) : SVec := k0_pay7 S v (k0_pay6 k z) g

/-- The gated rows of a sub-chunk. -/
def OC (S : SVec) (q k : KVec) (v : VVec) (d : DVec) (xi : CVec) (gate : VVec) : VVec :=
  k0_pay14 (k0_pay12 gate) (k0_pay13 S (k0_pay9 q) v (k0_pay10 q k) d xi)

theorem SC_at (S : SVec) (k : KVec) (v : VVec) (z : CVec) (g : GVec) (a : Fin 256) (e : Fin 512) :
    @Eq EReal (SC S k v z g (ix2 a e))
      (g (ix3 0 0 0) * S (ix2 a e) + ∑ n, k (ix2 n a) * z (ix3 0 n 0) * v (ix2 n e)) := by
  pointwise [SC, k0_pay7, k0_pay6]

/-- A row of the sub-chunk before it is normalised. -/
def raw (S : SVec) (q k : KVec) (v : VVec) (d : DVec) (xi : CVec) (n : Fin 256) (e : Fin 512) : EReal :=
  ∑ m, (∑ a, q (ix2 n a) * Ideal.ofBits .bf16 0x3D80#16 * k (ix2 m a)) * d (ix3 0 n m) * v (ix2 m e)
    + (∑ a, q (ix2 n a) * Ideal.ofBits .bf16 0x3D80#16 * S (ix2 a e)) * xi (ix3 0 n 0)

theorem OC_at (S : SVec) (q k : KVec) (v : VVec) (d : DVec) (xi : CVec) (gate : VVec) (n : Fin 256) (e : Fin 512) :
    @Eq EReal (OC S q k v d xi gate (ix2 n e)) (row (raw S q k v d xi n) (gate (ix2 n e)) e) := by
  pointwise [OC, k0_pay14, k0_pay12, k0_pay13, k0_pay9, k0_pay10]
  rfl

section Reals

variable (x : ℕ → ℕ → ℝ) (γ : ℝ) (r h T : ℕ)
variable {S : SVec} {q k : KVec} {v : VVec} {d : DVec} {xi z : CVec} {g : GVec} {gate : VVec}
variable (hS : ∀ a e, @Eq EReal (S (ix2 a e)) ((state x γ r h T a.val e.val : ℝ) : EReal))
variable (hq : ∀ n a, @Eq EReal (q (ix2 n a)) ((x (r + (T + n.val)) (256 * h + a.val) : ℝ) : EReal))
variable (hk : ∀ n a, @Eq EReal (k (ix2 n a)) ((x (r + (T + n.val)) (1024 + 256 * h + a.val) : ℝ) : EReal))
variable (hv : ∀ n e, @Eq EReal (v (ix2 n e)) ((x (r + (T + n.val)) (2048 + 512 * h + e.val) : ℝ) : EReal))
variable (hd : ∀ n m, @Eq EReal (d (ix3 0 n m)) ((if m.val ≤ n.val then γ ^ (n.val - m.val) else 0 : ℝ) : EReal))
variable (hxi : ∀ n, @Eq EReal (xi (ix3 0 n 0)) ((γ ^ (n.val + 1) : ℝ) : EReal))
variable (hz : ∀ n, @Eq EReal (z (ix3 0 n 0)) ((γ ^ (255 - n.val) : ℝ) : EReal))
variable (hg : @Eq EReal (g (ix3 0 0 0)) ((γ ^ 256 : ℝ) : EReal))

include hS hk hv hz hg in
/-- The state after the sub-chunk is the recurrence's, 256 rows on. -/
theorem SC_state (a : Fin 256) (e : Fin 512) :
    @Eq EReal (SC S k v z g (ix2 a e)) ((state x γ r h (T + 256) a.val e.val : ℝ) : EReal) := by
  rw [SC_at, hS, hg, ← chunk_state x γ r h T 256 a e, EReal.coe_add, coe_sum, EReal.coe_mul]
  refine congrArg _ (Finset.sum_congr rfl fun n _ => ?_)
  rw [hk, hz, hv, ← EReal.coe_mul, ← EReal.coe_mul]

include hS hq hk hv hd hxi in
/-- A row of the sub-chunk, before it is normalised, is the recurrence's output. -/
theorem raw_out (n : Fin 256) (e : Fin 512) :
    raw S q k v d xi n e = ((out x γ r h (T + n.val) e.val : ℝ) : EReal) := by
  rw [raw, ← chunk_out x γ r h T 256 n e, EReal.coe_add, coe_sum, EReal.coe_mul, coe_sum, hxi]
  refine congrArg₂ (· + ·) (Finset.sum_congr rfl fun m _ => ?_) (congrArg (· * _) (Finset.sum_congr rfl fun a _ => ?_))
  · rw [hd, hv, EReal.coe_mul, EReal.coe_mul, coe_sum]
    refine congrArg (· * _) (congrArg (· * _) (Finset.sum_congr rfl fun a _ => ?_))
    rw [hq, hk, sixteenth_bf16, EReal.coe_mul, EReal.coe_mul]
  · rw [hq, hS, sixteenth_bf16, EReal.coe_mul, EReal.coe_mul]

include hS hq hk hv hd hxi in
/-- … and what the kernel writes is that row normalised and gated. -/
theorem OC_out (n : Fin 256) (e : Fin 512) :
    @Eq EReal (OC S q k v d xi gate (ix2 n e))
      (row (fun d => ((out x γ r h (T + n.val) d.val : ℝ) : EReal)) (gate (ix2 n e)) e) := by
  rw [OC_at]
  exact congrArg (fun o => row o _ _) (funext fun e => raw_out x γ r h T hS hq hk hv hd hxi n e)

end Reals

variable (L : Vec Ideal S1x1x256x512 .f32) (S : SVec) (q k : KVec) (v : VVec) (d : DVec) (xi z : CVec) (g : GVec) (gate : VVec)

theorem s7 : k0_pay7 S v (k0_pay6 k z) g = SC S k v z g := rfl
theorem s11 : k0_pay11 S k v z g = SC S k v z g := rfl
theorem s19 : k0_pay19 S v (k0_pay18 k) z g = SC S k v z g := rfl
theorem s22 : k0_pay22 S k v z g = SC S k v z g := rfl
theorem s32 : k0_pay32 S k v z g = SC S k v z g := rfl
theorem s35 : k0_pay35 S k v z g = SC S k v z g := rfl
theorem s45 : k0_pay45 S k v z g = SC S k v z g := rfl
theorem s2 : k0_pay2 v (k0_pay49 k z) (k0_pay50 S g) (constant S256x512 .f32 0x00000000#32) = k0_pay15 (SC S k v z g) := rfl
theorem c27 : k0_pay27 (F := Ideal) = k0_pay15 := rfl
theorem c40 : k0_pay40 (F := Ideal) = k0_pay15 := rfl
theorem c16 : k0_pay16 (F := Ideal) = k0_pay4 := rfl
theorem c28 : k0_pay28 (F := Ideal) = k0_pay4 := rfl
theorem c41 : k0_pay41 (F := Ideal) = k0_pay4 := rfl
theorem o8 : k0_pay8 gate (k0_pay5 L q k v d xi) = OC (k0_pay4 L) q k v d xi gate := rfl
theorem o20 : k0_pay20 gate (k0_pay17 L q k v d xi) = OC (k0_pay4 L) q k v d xi gate := rfl
theorem o26 : k0_pay26 (k0_pay23 gate) (k0_pay24 S (k0_pay21 q) k v d xi) (k0_pay25 S (k0_pay21 q) k v d xi) (Scalar.ofBits .f32 0x44000000#32) = OC S q k v d xi gate := rfl
theorem o33 : k0_pay33 gate (k0_pay30 q k v d) (k0_pay31 L q) xi = OC (k0_pay4 L) q k v d xi gate := rfl
theorem o39 : k0_pay39 (k0_pay34 S q k v d xi) (k0_pay36 gate) (k0_pay37 S q k v d xi) k0_pay38 = OC S q k v d xi gate := rfl
theorem o47 : k0_pay47 (k0_pay46 S (k0_pay42 q) v gate (k0_pay43 q k) (k0_pay44 d) xi) = OC S q k v d xi gate := rfl
theorem o1 : k0_pay1 gate (k0_pay48 S q k v d xi) = OC S q k v d xi gate := rfl

end Cert.KernelIdeal.Chunk

end
-- ==== Proof.Tables.lean ====
/- The decay tables: what the host line of each program leaves in them, entry by entry. -/
module

public import proofs.«01_k».proof.Proof.Gen.KernelIdeal.Value
public import proofs.«01_k».proof.Proof.Gen.ReferenceIdeal.Step
public import proofs.«01_k».proof.Proof.Decay
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open Cert.Ret

namespace Cert.KernelIdeal.Tables

open Cert.KernelIdeal Cert.KernelIdeal.Gen

variable (m : (ℓ : Loc nD τ sig) → Buf (Elt Ideal) ℓ) (c : Dev nD) (h : Fin 4)

theorem decay_at (n k : Fin 256) : @Eq EReal (V (F := Ideal) m c main_v25 (ix3 h n k))
    ((if k.val ≤ n.val then gam h ^ (n.val - k.val) else 0 : ℝ) : EReal) := by
  unfold V
  simp only [List.flatten_cons, List.flatten_nil, List.append_nil, hostOps0, hostOps0_1, hostOps0_2, List.cons_append, List.nil_append]
  after_results
  simp -implicitDefEqProofs only [StableHlo.TRef.toBuf, StableHlo.TRef.ofBuf, cast_cast, cast_eq, id]
  clean_types
  pointwise
  rw [sitofp_nat n (by omega), sitofp_nat k (by omega), sitofp_nat h (by omega), log_gam]
  refine decay_gam h n k _ ?_
  simp only [id]

theorem xi_at (n : Fin 256) : @Eq EReal (V (F := Ideal) m c main_v46 (ix3 h n 0)) ((gam h ^ (n.val + 1) : ℝ) : EReal) := by
  unfold V
  simp only [List.flatten_cons, List.flatten_nil, List.append_nil, hostOps0, hostOps0_1, hostOps0_2, List.cons_append, List.nil_append]
  after_results
  pointwise
  rw [sitofp_nat n (by omega), sitofp_nat h (by omega), log_gam]
  exact pow_succ_gam h n

theorem zeta_at (n : Fin 256) : @Eq EReal (V (F := Ideal) m c main_v48 (ix3 h n 0)) ((gam h ^ (255 - n.val) : ℝ) : EReal) := by
  unfold V
  simp only [List.flatten_cons, List.flatten_nil, List.append_nil, hostOps0, hostOps0_1, hostOps0_2, List.cons_append, List.nil_append]
  after_results
  pointwise
  rw [sitofp_nat n (by omega), sitofp_nat h (by omega), log_gam, ofBits_255]
  exact pow_sub_gam h n 255 (by omega)

theorem g_at : @Eq EReal (V (F := Ideal) m c main_v49 (ix3 h 0 0)) ((gam h ^ 256 : ℝ) : EReal) := by
  unfold V
  simp only [List.flatten_cons, List.flatten_nil, List.append_nil, hostOps0, hostOps0_1, hostOps0_2, List.cons_append, List.nil_append]
  after_results
  pointwise
  rw [sitofp_nat h (by omega), log_gam, ofBits_256]
  exact pow_gam h 256

end Cert.KernelIdeal.Tables

namespace Cert.ReferenceIdeal.Tables

open Cert.ReferenceIdeal.Step

variable (h : Fin 4)

theorem log_at : @Eq EReal (K_main_v19 (F := Ideal) (ix1 h)) ((lg h : ℝ) : EReal) := by
  pointwise [K_main_cst, K_main_cst_0, K_main_v12, K_main_cst_1, K_main_v13, K_main_v14, K_main_cst_2, K_main_v15, K_main_v16,
    K_main_v17, K_main_v18, K_main_v19]
  rw [sitofp_nat h (by omega), log_gam]

theorem decay_at (n k : Fin 128) : @Eq EReal (K_main_v37 (F := Ideal) (ix3 h n k))
    ((if k.val ≤ n.val then gam h ^ (n.val - k.val) else 0 : ℝ) : EReal) := by
  pointwise [K_main_v20, K_main_v21, K_main_v22, K_main_v23, K_main_v24, K_main_v25, K_main_v26, K_main_cst_3, K_main_v27,
    K_main_v28, K_main_cst_4, K_main_v29, K_main_v30, K_main_v31, K_main_v32, K_main_v33, K_main_v34, K_main_v35, K_main_v36,
    K_main_cst_5, K_main_call0_v0, K_main_call0_v1, K_main_call0_v2, K_main_v37]
  rw [sitofp_nat n (by omega), sitofp_nat k (by omega), log_at]
  refine decay_gam h n k _ ?_
  simp only [id]
  pointwise

theorem xi_at (n : Fin 128) : @Eq EReal (K_main_v45 (F := Ideal) (ix2 n h)) ((gam h ^ (n.val + 1) : ℝ) : EReal) := by
  pointwise [K_main_v20, K_main_v38, K_main_cst_6, K_main_v39, K_main_v40, K_main_v41, K_main_v42, K_main_v43, K_main_v44, K_main_v45]
  rw [sitofp_nat n (by omega), log_at]
  exact pow_succ_gam h n

theorem zeta_at (n : Fin 128) : @Eq EReal (K_main_v53 (F := Ideal) (ix2 n h)) ((gam h ^ (127 - n.val) : ℝ) : EReal) := by
  pointwise [K_main_v20, K_main_cst_7, K_main_v46, K_main_v47, K_main_v48, K_main_v49, K_main_v50, K_main_v51, K_main_v52, K_main_v53]
  rw [sitofp_nat n (by omega), log_at, ofBits_127]
  exact pow_sub_gam h n 127 (by omega)

theorem g_at : @Eq EReal (K_main_v56 (F := Ideal) (ix1 h)) ((gam h ^ 128 : ℝ) : EReal) := by
  pointwise [K_main_cst_8, K_main_v54, K_main_v55, K_main_v56]
  rw [log_at, ofBits_128]
  exact pow_gam h 128

end Cert.ReferenceIdeal.Tables

end
-- ==== Proof.Head.lean ====
/- One head at one grid point of the kernel: its loads from the block and the tables, its two sub-chunks, and what they
   leave in the state and in the rows. Stated for any head, over any state `P` that is the recurrence's at the point's
   first row. -/
module

public import proofs.«01_k».proof.Proof.Chunk
public import proofs.«01_k».proof.Proof.Tables

@[expose] public section

set_option maxRecDepth 16384

noncomputable section

open Idealize.ShloMosaic Idealize.ShloMosaic.TcCoe Idealize.SL.Sem
open Idealize.ShloMosaic.Pipeline (Dat)

namespace Cert.KernelIdeal.Head

open Cert.KernelIdeal Cert.KernelIdeal.Gen Cert.KernelIdeal.Chunk Cert.Ret

variable (m : (ℓ : Loc nD τ sig) → Buf (Elt Ideal) ℓ) (c : Dev nD) (t : Fin cfg0.N)

/-- The tables are one block each, the argument a block of rows per point. -/
theorem idx_val : ∀ t : Fin cfg0.N, win0_0.index t 0 = t.val ∧ win0_0.index t 1 = 0
    ∧ (∀ k, win0_1.index t k = 0) ∧ (∀ k, win0_2.index t k = 0) ∧ (∀ k, win0_3.index t k = 0) ∧ (∀ k, win0_4.index t k = 0) :=
  (by decide +kernel : ∀ t : Fin grid0.N, win0_0.index t 0 = t.val ∧ win0_0.index t 1 = 0
    ∧ (∀ k, win0_1.index t k = 0) ∧ (∀ k, win0_2.index t k = 0) ∧ (∀ k, win0_3.index t k = 0) ∧ (∀ k, win0_4.index t k = 0))

theorem decay_blk (h : Fin 4) (n k : Fin 256) : @Eq EReal (iblk m c 1 t (ix3 h n k))
    ((if k.val ≤ n.val then gam h ^ (n.val - k.val) else 0 : ℝ) : EReal) := by
  rw [← Tables.decay_at m c h n k]
  blk_ext [iblk, idx_val t]

theorem xi_blk (h : Fin 4) (n : Fin 256) : @Eq EReal (iblk m c 2 t (ix3 h n 0)) ((gam h ^ (n.val + 1) : ℝ) : EReal) := by
  rw [← Tables.xi_at m c h n]
  blk_ext [iblk, idx_val t]

theorem zeta_blk (h : Fin 4) (n : Fin 256) : @Eq EReal (iblk m c 3 t (ix3 h n 0)) ((gam h ^ (255 - n.val) : ℝ) : EReal) := by
  rw [← Tables.zeta_at m c h n]
  blk_ext [iblk, idx_val t]

theorem g_blk (h : Fin 4) : @Eq EReal (iblk m c 4 t (ix3 h 0 0)) ((gam h ^ 256 : ℝ) : EReal) := by
  rw [← Tables.g_at m c h]
  blk_ext [iblk, idx_val t]

section Loads

variable (x : ℕ → ℕ → ℝ) (X : Vec Ideal S512x6144 .bf16)
variable (hX : ∀ (n : Fin 512) (j : Fin 6144), @Eq EReal (X (ix2 n j)) ((x (512 * t.val + n.val) j.val : ℝ) : EReal))

include hX in
/-- An entry of the block, read through a load at an offset. -/
theorem block_ld (s : Fin 2 → ℕ) (b0 b1 : ℕ) (inb) (n : Fin (s 0)) (a : Fin (s 1)) (row col : ℕ)
    (hr : row = 512 * t.val + (b0 + n.val)) (hc : col = b1 + a.val)
    (z : (Rect.unit (s := S512x6144) ![b0, b1] s inb).shape.Idx) (h0 : (z 0).val = n.val) (h1 : (z 1).val = a.val) :
    @Eq EReal (View.ld X (Rect.unit (s := S512x6144) ![b0, b1] s inb) z) ((x row col : ℝ) : EReal) := by
  have i0 : b0 + s 0 ≤ 512 := inb 0
  have i1 : b1 + s 1 ≤ 6144 := inb 1
  have hn := n.isLt
  have ha := a.isLt
  rw [View.ld_unit_apply_of X _ _ inb z (ix2 ⟨b0 + n.val, by omega⟩ ⟨b1 + a.val, by omega⟩)
    (by intro k; fin_cases k <;> simp [h0, h1]), hX, hr, hc]

variable (P : Vec Ideal S1x4x256x512 .f32) (T h : ℕ) (hh : h < 4) (hT : T = 512 * (t.val % 4))
variable (hP : ∀ (a : Fin 256) (e : Fin 512), @Eq EReal (P (ix4 0 ⟨h, hh⟩ a e))
  ((state x (gam h) (2048 * (t.val / 4)) h T a.val e.val : ℝ) : EReal))

include hP in
theorem state_ld (inb) (a : Fin 256) (e : Fin 512) :
    @Eq EReal (k0_pay4 (View.ld P (Rect.unit (s := S1x4x256x512) ![0, h, 0, 0] S1x1x256x512.size inb)) (ix2 a e))
      ((state x (gam h) (2048 * (t.val / 4)) h T a.val e.val : ℝ) : EReal) := by
  rw [← hP]
  pointwise [k0_pay4]

theorem col_ld (Z : Vec Ideal S4x256x1 .f32) (inb) (n : Fin 256) :
    View.ld Z (Rect.unit (s := S4x256x1) ![h, 0, 0] S1x256x1.size inb) (ix3 0 n 0) = Z (ix3 ⟨h, hh⟩ n 0) := by
  refine View.ld_unit_apply_of Z _ _ inb _ _ ?_
  intro k
  fin_cases k <;> simp

theorem tile_ld (Z : Vec Ideal S4x256x256 .f32) (inb) (n k : Fin 256) :
    View.ld Z (Rect.unit (s := S4x256x256) ![h, 0, 0] S1x256x256.size inb) (ix3 0 n k) = Z (ix3 ⟨h, hh⟩ n k) := by
  refine View.ld_unit_apply_of Z _ _ inb _ _ ?_
  intro k
  fin_cases k <;> simp

theorem one_ld (Z : Vec Ideal S4x1x1 .f32) (inb) :
    View.ld Z (Rect.unit (s := S4x1x1) ![h, 0, 0] S1x1x1.size inb) (ix3 0 0 0) = Z (ix3 ⟨h, hh⟩ 0 0) := by
  refine View.ld_unit_apply_of Z _ _ inb _ _ ?_
  intro k
  fin_cases k <;> simp

end Loads

section Head

variable (x : ℕ → ℕ → ℝ)
variable (hX : ∀ (n : Fin 512) (j : Fin 6144), @Eq EReal (iblk m c 0 t (ix2 n j)) ((x (512 * t.val + n.val) j.val : ℝ) : EReal))
variable (P : Vec Ideal S1x4x256x512 .f32) (h : ℕ) (hh : h < 4)
variable (hP : ∀ (a : Fin 256) (e : Fin 512), @Eq EReal (P (ix4 0 ⟨h, hh⟩ a e))
  ((state x (gam h) (2048 * (t.val / 4)) h (512 * (t.val % 4)) a.val e.val : ℝ) : EReal))

include hX hP in
/-- The state after the first sub-chunk. -/
theorem first_state (iP ik iv iz ig) (a : Fin 256) (e : Fin 512) :
    @Eq EReal (SC (k0_pay4 (View.ld P (Rect.unit (s := S1x4x256x512) ![0, h, 0, 0] S1x1x256x512.size iP)))
        (View.ld (iblk m c 0 t) (Rect.unit (s := S512x6144) ![0, 1024 + 256 * h] S256x256.size ik))
        (View.ld (iblk m c 0 t) (Rect.unit (s := S512x6144) ![0, 2048 + 512 * h] S256x512.size iv))
        (View.ld (iblk m c 3 t) (Rect.unit (s := S4x256x1) ![h, 0, 0] S1x256x1.size iz))
        (View.ld (iblk m c 4 t) (Rect.unit (s := S4x1x1) ![h, 0, 0] S1x1x1.size ig)) (ix2 a e))
      ((state x (gam h) (2048 * (t.val / 4)) h (512 * (t.val % 4) + 256) a.val e.val : ℝ) : EReal) := by
  refine SC_state x (gam h) (2048 * (t.val / 4)) h (512 * (t.val % 4)) ?_ ?_ ?_ ?_ ?_ a e
  · exact fun a e => state_ld t x P _ h hh hP iP a e
  · exact fun n a => block_ld t x _ hX _ _ _ ik n a _ _ (by omega) (by omega) _ rfl rfl
  · exact fun n e => block_ld t x _ hX _ _ _ iv n e _ _ (by omega) (by omega) _ rfl rfl
  · exact fun n => (col_ld h hh _ iz n).trans (zeta_blk m c t ⟨h, hh⟩ n)
  · exact (one_ld h hh _ ig).trans (g_blk m c t ⟨h, hh⟩)

include hX hP in
/-- The rows of the first sub-chunk. -/
theorem first_rows (iP iq ik iv id ix io) (n : Fin 256) (e : Fin 512) :
    @Eq EReal (OC (k0_pay4 (View.ld P (Rect.unit (s := S1x4x256x512) ![0, h, 0, 0] S1x1x256x512.size iP)))
        (View.ld (iblk m c 0 t) (Rect.unit (s := S512x6144) ![0, 256 * h] S256x256.size iq))
        (View.ld (iblk m c 0 t) (Rect.unit (s := S512x6144) ![0, 1024 + 256 * h] S256x256.size ik))
        (View.ld (iblk m c 0 t) (Rect.unit (s := S512x6144) ![0, 2048 + 512 * h] S256x512.size iv))
        (View.ld (iblk m c 1 t) (Rect.unit (s := S4x256x256) ![h, 0, 0] S1x256x256.size id))
        (View.ld (iblk m c 2 t) (Rect.unit (s := S4x256x1) ![h, 0, 0] S1x256x1.size ix))
        (View.ld (iblk m c 0 t) (Rect.unit (s := S512x6144) ![0, 4096 + 512 * h] S256x512.size io)) (ix2 n e))
      (row (fun d => ((out x (gam h) (2048 * (t.val / 4)) h (512 * (t.val % 4) + n.val) d.val : ℝ) : EReal))
        ((x (512 * t.val + n.val) (4096 + 512 * h + e.val) : ℝ) : EReal) e) := by
  rw [OC_out x (gam h) (2048 * (t.val / 4)) h (512 * (t.val % 4)) ?_ ?_ ?_ ?_ ?_ ?_ n e]
  · exact congrArg (fun g => row _ g e) (block_ld t x _ hX _ _ _ io n e _ _ (by omega) (by omega) _ rfl rfl)
  · exact fun a e => state_ld t x P _ h hh hP iP a e
  · exact fun n a => block_ld t x _ hX _ _ _ iq n a _ _ (by omega) (by omega) _ rfl rfl
  · exact fun n a => block_ld t x _ hX _ _ _ ik n a _ _ (by omega) (by omega) _ rfl rfl
  · exact fun n e => block_ld t x _ hX _ _ _ iv n e _ _ (by omega) (by omega) _ rfl rfl
  · exact fun n k => (tile_ld h hh _ id n k).trans (decay_blk m c t ⟨h, hh⟩ n k)
  · exact fun n => (col_ld h hh _ ix n).trans (xi_blk m c t ⟨h, hh⟩ n)

variable (S : SVec)
variable (hS : ∀ (a : Fin 256) (e : Fin 512), @Eq EReal (S (ix2 a e))
  ((state x (gam h) (2048 * (t.val / 4)) h (512 * (t.val % 4) + 256) a.val e.val : ℝ) : EReal))

include hh hX hS in
/-- The state after the second sub-chunk. -/
theorem second_state (ik iv iz ig) (a : Fin 256) (e : Fin 512) :
    @Eq EReal (SC S
        (View.ld (iblk m c 0 t) (Rect.unit (s := S512x6144) ![256, 1024 + 256 * h] S256x256.size ik))
        (View.ld (iblk m c 0 t) (Rect.unit (s := S512x6144) ![256, 2048 + 512 * h] S256x512.size iv))
        (View.ld (iblk m c 3 t) (Rect.unit (s := S4x256x1) ![h, 0, 0] S1x256x1.size iz))
        (View.ld (iblk m c 4 t) (Rect.unit (s := S4x1x1) ![h, 0, 0] S1x1x1.size ig)) (ix2 a e))
      ((state x (gam h) (2048 * (t.val / 4)) h (512 * (t.val % 4 + 1)) a.val e.val : ℝ) : EReal) := by
  rw [show 512 * (t.val % 4 + 1) = 512 * (t.val % 4) + 256 + 256 by omega]
  refine SC_state x (gam h) (2048 * (t.val / 4)) h (512 * (t.val % 4) + 256) hS ?_ ?_ ?_ ?_ a e
  · exact fun n a => block_ld t x _ hX _ _ _ ik n a _ _ (by omega) (by omega) _ rfl rfl
  · exact fun n e => block_ld t x _ hX _ _ _ iv n e _ _ (by omega) (by omega) _ rfl rfl
  · exact fun n => (col_ld h hh _ iz n).trans (zeta_blk m c t ⟨h, hh⟩ n)
  · exact (one_ld h hh _ ig).trans (g_blk m c t ⟨h, hh⟩)

include hh hX hS in
/-- The rows of the second sub-chunk. -/
theorem second_rows (iq ik iv id ix io) (n : Fin 256) (e : Fin 512) :
    @Eq EReal (OC S
        (View.ld (iblk m c 0 t) (Rect.unit (s := S512x6144) ![256, 256 * h] S256x256.size iq))
        (View.ld (iblk m c 0 t) (Rect.unit (s := S512x6144) ![256, 1024 + 256 * h] S256x256.size ik))
        (View.ld (iblk m c 0 t) (Rect.unit (s := S512x6144) ![256, 2048 + 512 * h] S256x512.size iv))
        (View.ld (iblk m c 1 t) (Rect.unit (s := S4x256x256) ![h, 0, 0] S1x256x256.size id))
        (View.ld (iblk m c 2 t) (Rect.unit (s := S4x256x1) ![h, 0, 0] S1x256x1.size ix))
        (View.ld (iblk m c 0 t) (Rect.unit (s := S512x6144) ![256, 4096 + 512 * h] S256x512.size io)) (ix2 n e))
      (row (fun d => ((out x (gam h) (2048 * (t.val / 4)) h (512 * (t.val % 4) + (256 + n.val)) d.val : ℝ) : EReal))
        ((x (512 * t.val + (256 + n.val)) (4096 + 512 * h + e.val) : ℝ) : EReal) e) := by
  rw [← Nat.add_assoc (512 * (t.val % 4)),
    OC_out x (gam h) (2048 * (t.val / 4)) h (512 * (t.val % 4) + 256) hS ?_ ?_ ?_ ?_ ?_ n e]
  · exact congrArg (fun g => row _ g e) (block_ld t x _ hX _ _ _ io n e _ _ (by omega) (by omega) _ rfl rfl)
  · exact fun n a => block_ld t x _ hX _ _ _ iq n a _ _ (by omega) (by omega) _ rfl rfl
  · exact fun n a => block_ld t x _ hX _ _ _ ik n a _ _ (by omega) (by omega) _ rfl rfl
  · exact fun n e => block_ld t x _ hX _ _ _ iv n e _ _ (by omega) (by omega) _ rfl rfl
  · exact fun n k => (tile_ld h hh _ id n k).trans (decay_blk m c t ⟨h, hh⟩ n k)
  · exact fun n => (col_ld h hh _ ix n).trans (xi_blk m c t ⟨h, hh⟩ n)

end Head

end Cert.KernelIdeal.Head

end
-- ==== Proof.Grid.lean ====
/- The kernel's two outputs, grid point by grid point: the state block is the recurrence's state after the point's rows,
   and the row block holds its normalised, gated outputs. -/
module

public import proofs.«01_k».proof.Proof.Head
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Grid

open Cert.KernelIdeal Cert.KernelIdeal.Gen Cert.KernelIdeal.Chunk Cert.KernelIdeal.Head Cert.Ret

/-- What a point's row block holds. -/
def rowsOf (x : ℕ → ℕ → ℝ) (t : ℕ) (y : S512x2048.Idx) : EReal :=
  row (fun d => ((out x (gam ((y 1).val / 512)) (2048 * (t / 4)) ((y 1).val / 512) (512 * (t % 4) + (y 0).val) d.val : ℝ) : EReal))
    ((x (512 * t + (y 0).val) (4096 + (y 1).val) : ℝ) : EReal) ⟨(y 1).val % 512, Nat.mod_lt _ (by norm_num)⟩

/-- What a point's state block holds. -/
def stateOf (x : ℕ → ℕ → ℝ) (t : ℕ) (y : S1x4x256x512.Idx) : EReal :=
  ((state x (gam (y 1).val) (2048 * (t / 4)) (y 1).val (512 * (t % 4 + 1)) (y 2).val (y 3).val : ℝ) : EReal)

/-- A head's rows, where they lie in the row block. -/
theorem rows_piece (x : ℕ → ℕ → ℝ) (t h : ℕ) (R : ℕ → ℕ) (O : VVec)
    (hO : ∀ (n : Fin 256) (e : Fin 512), @Eq EReal (O (ix2 n e))
      (row (fun d => ((out x (gam h) (2048 * (t / 4)) h (512 * (t % 4) + R n.val) d.val : ℝ) : EReal))
        ((x (512 * t + R n.val) (4096 + 512 * h + e.val) : ℝ) : EReal) e))
    (y : S512x2048.Idx) (z : S256x512.Idx) (h0 : (y 0).val = R (z 0).val) (h1 : (y 1).val = 512 * h + (z 1).val) :
    @Eq EReal (O z) (rowsOf x t y) := by
  have hz : (z 1).val < 512 := (z 1).isLt
  have e1 : (y 1).val / 512 = h := by omega
  have e2 : (⟨(y 1).val % 512, Nat.mod_lt _ (by norm_num)⟩ : Fin 512) = z 1 := Fin.ext (by show (y 1).val % 512 = (z 1).val; omega)
  rw [rowsOf, e1, e2, h0, h1, ← Nat.add_assoc]
  exact (congrArg O (by funext k; fin_cases k <;> rfl : z = ix2 (z 0) (z 1))).trans (hO (z 0) (z 1))

/-- A head's state, where it lies in the state block. -/
theorem state_piece (x : ℕ → ℕ → ℝ) (t h : ℕ) (S : SVec)
    (hS : ∀ (a : Fin 256) (e : Fin 512), @Eq EReal (S (ix2 a e))
      ((state x (gam h) (2048 * (t / 4)) h (512 * (t % 4 + 1)) a.val e.val : ℝ) : EReal))
    (y : S1x4x256x512.Idx) (z : S1x1x256x512.Idx) (h1 : (y 1).val = h) (h2 : (y 2).val = (z 2).val) (h3 : (y 3).val = (z 3).val) :
    @Eq EReal (k0_pay15 S z) (stateOf x t y) := by
  rw [stateOf, h1, h2, h3]
  refine Eq.trans ?_ (hS (z 2) (z 3))
  pointwise [k0_pay15]

/-- Stores that cover an index leave there what they leave without an earlier store. -/
theorem canon_drop {S : Shape} {Val : EltTy → Type} {e : EltTy} [∀ e, Nonempty (Val e)] (L : List (View.Piece Val S e)) (p : View.Piece Val S e)
    (y : S.Idx) (hc : ∃ q ∈ L, y ∈ q.1.set) : View.canon (L ++ [p]) y = View.canon L y := by
  induction L with
  | nil => obtain ⟨q, hq, _⟩ := hc; simp at hq
  | cons q L ih =>
    by_cases hm : y ∈ q.1.set
    · obtain ⟨x, rfl⟩ := q.1.exists_idx_of_mem hm
      rw [List.cons_append, show q.1.idx x = q.1.emb x from rfl]
      exact (View.canon_cons_emb q.1 q.2 _ x).trans (View.canon_cons_emb q.1 q.2 L x).symm
    · rw [List.cons_append, View.canon_cons_of_not_mem q _ hm, View.canon_cons_of_not_mem q L hm]
      obtain ⟨r, hr, hy⟩ := hc
      refine ih ⟨r, ?_, hy⟩
      rcases List.mem_cons.mp hr with rfl | hr
      · exact absurd hy hm
      · exact hr

variable (m : (ℓ : Loc nD τ sig) → Buf (Elt Ideal) ℓ) (c : Dev nD) (t : Fin cfg0.N)
variable (x : ℕ → ℕ → ℝ)
variable (hX : ∀ (n : Fin 512) (j : Fin 6144), @Eq EReal (iblk m c 0 t (ix2 n j)) ((x (512 * t.val + n.val) j.val : ℝ) : EReal))

/-- The state a point starts from is the recurrence's at its first row. -/
def Starts (P : Vec Ideal S1x4x256x512 .f32) : Prop := ∀ (h : Fin 4) (a : Fin 256) (e : Fin 512),
  @Eq EReal (P (ix4 0 h a e)) ((state x (gam h.val) (2048 * (t.val / 4)) h.val (512 * (t.val % 4)) a.val e.val : ℝ) : EReal)

include hX in
/-- A head's state after the point. -/
theorem head_state (P : Vec Ideal S1x4x256x512 .f32) (hP : Starts t x P) (h : ℕ) (hh : h < 4) (iP ik iv iz ig ik' iv') (a : Fin 256) (e : Fin 512) :
    @Eq EReal (SC (SC (k0_pay4 (View.ld P (Rect.unit (s := S1x4x256x512) ![0, h, 0, 0] S1x1x256x512.size iP)))
          (View.ld (iblk m c 0 t) (Rect.unit (s := S512x6144) ![0, 1024 + 256 * h] S256x256.size ik))
          (View.ld (iblk m c 0 t) (Rect.unit (s := S512x6144) ![0, 2048 + 512 * h] S256x512.size iv))
          (View.ld (iblk m c 3 t) (Rect.unit (s := S4x256x1) ![h, 0, 0] S1x256x1.size iz))
          (View.ld (iblk m c 4 t) (Rect.unit (s := S4x1x1) ![h, 0, 0] S1x1x1.size ig)))
        (View.ld (iblk m c 0 t) (Rect.unit (s := S512x6144) ![256, 1024 + 256 * h] S256x256.size ik'))
        (View.ld (iblk m c 0 t) (Rect.unit (s := S512x6144) ![256, 2048 + 512 * h] S256x512.size iv'))
        (View.ld (iblk m c 3 t) (Rect.unit (s := S4x256x1) ![h, 0, 0] S1x256x1.size iz))
        (View.ld (iblk m c 4 t) (Rect.unit (s := S4x1x1) ![h, 0, 0] S1x1x1.size ig)) (ix2 a e))
      ((state x (gam h) (2048 * (t.val / 4)) h (512 * (t.val % 4 + 1)) a.val e.val : ℝ) : EReal) :=
  second_state m c t x hX h hh _ (fun a e => first_state m c t x hX P h hh (hP ⟨h, hh⟩) iP ik iv iz ig a e) ik' iv' iz ig a e

include hX in
theorem stateB (h0 : ¬t.val % 4 = 0) (hP : Starts t x (outsAt0 m c (t.val - 1) (Nat.lt_of_le_of_lt (Nat.sub_le _ _) t.isLt)).2)
    (y : S1x4x256x512.Idx) : @Eq EReal ((outsAt0 (F := Ideal) m c t.val t.isLt).2 y) (stateOf x t y) := by
  rw [outsAt0_B m c t h0]
  dsimp only
  frame_out
  canon_tiles z h
  all_goals simp only [s7, s11, s19, s22, s32, s35, s45, s2, c27, c40, c16, c28, c41]
  · exact state_piece x t 3 _ (head_state m c t x hX _ hP 3 (by norm_num) _ _ _ _ _ _ _) y z (by omega) (by omega) (by omega)
  · exact state_piece x t 2 _ (head_state m c t x hX _ hP 2 (by norm_num) _ _ _ _ _ _ _) y z (by omega) (by omega) (by omega)
  · exact state_piece x t 1 _ (head_state m c t x hX _ hP 1 (by norm_num) _ _ _ _ _ _ _) y z (by omega) (by omega) (by omega)
  · exact state_piece x t 0 _ (head_state m c t x hX _ hP 0 (by norm_num) _ _ _ _ _ _ _) y z (by omega) (by omega) (by omega)

theorem starts_zero (h0 : t.val % 4 = 0) : Starts t x (k0_pay3 (F := Ideal)) := by
  intro h a e
  rw [h0]
  pointwise [k0_pay3]
  rfl

include hX in
theorem stateA (h0 : t.val % 4 = 0)
    (y : S1x4x256x512.Idx) : @Eq EReal ((outsAt0 (F := Ideal) m c t.val t.isLt).2 y) (stateOf x t y) := by
  have hP := starts_zero t x h0
  rw [outsAt0_A m c t h0]
  dsimp only
  frame_out
  refine (canon_drop [_, _, _, _] _ y (View.cover_of_tiledBy _ ![1, 1, 256, 512] (by sl_kernel_rfl) y)).trans ?_
  canon_tiles z h
  all_goals simp only [s7, s11, s19, s22, s32, s35, s45, s2, c27, c40, c16, c28, c41]
  all_goals simp (disch := decide) only [↓View.readCov_skip, View.readCov_fill]
  · exact state_piece x t 3 _ (head_state m c t x hX _ hP 3 (by norm_num) _ _ _ _ _ _ _) y z (by omega) (by omega) (by omega)
  · exact state_piece x t 2 _ (head_state m c t x hX _ hP 2 (by norm_num) _ _ _ _ _ _ _) y z (by omega) (by omega) (by omega)
  · exact state_piece x t 1 _ (head_state m c t x hX _ hP 1 (by norm_num) _ _ _ _ _ _ _) y z (by omega) (by omega) (by omega)
  · exact state_piece x t 0 _ (head_state m c t x hX _ hP 0 (by norm_num) _ _ _ _ _ _ _) y z (by omega) (by omega) (by omega)

include hX in
/-- A head's first rows, where they lie in the row block. -/
theorem head_rows (P : Vec Ideal S1x4x256x512 .f32) (hP : Starts t x P) (h : ℕ) (hh : h < 4) (iP iq ik iv id ix io)
    (y : S512x2048.Idx) (z : S256x512.Idx) (h0 : (y 0).val = (z 0).val) (h1 : (y 1).val = 512 * h + (z 1).val) :
    @Eq EReal (OC (k0_pay4 (View.ld P (Rect.unit (s := S1x4x256x512) ![0, h, 0, 0] S1x1x256x512.size iP)))
        (View.ld (iblk m c 0 t) (Rect.unit (s := S512x6144) ![0, 256 * h] S256x256.size iq))
        (View.ld (iblk m c 0 t) (Rect.unit (s := S512x6144) ![0, 1024 + 256 * h] S256x256.size ik)) (View.ld (iblk m c 0 t) (Rect.unit (s := S512x6144) ![0, 2048 + 512 * h] S256x512.size iv))
        (View.ld (iblk m c 1 t) (Rect.unit (s := S4x256x256) ![h, 0, 0] S1x256x256.size id)) (View.ld (iblk m c 2 t) (Rect.unit (s := S4x256x1) ![h, 0, 0] S1x256x1.size ix))
        (View.ld (iblk m c 0 t) (Rect.unit (s := S512x6144) ![0, 4096 + 512 * h] S256x512.size io)) z)
      (rowsOf x t y) :=
  rows_piece x t h (fun n => n) _ (first_rows m c t x hX P h hh (hP ⟨h, hh⟩) iP iq ik iv id ix io) y z h0 h1

include hX in
/-- A head's second rows, where they lie in the row block. -/
theorem head_rows' (P : Vec Ideal S1x4x256x512 .f32) (hP : Starts t x P) (h : ℕ) (hh : h < 4) (iP ik iv iz ig iq' ik' iv' id ix io)
    (y : S512x2048.Idx) (z : S256x512.Idx) (h0 : (y 0).val = 256 + (z 0).val) (h1 : (y 1).val = 512 * h + (z 1).val) :
    @Eq EReal (OC (SC (k0_pay4 (View.ld P (Rect.unit (s := S1x4x256x512) ![0, h, 0, 0] S1x1x256x512.size iP)))
        (View.ld (iblk m c 0 t) (Rect.unit (s := S512x6144) ![0, 1024 + 256 * h] S256x256.size ik)) (View.ld (iblk m c 0 t) (Rect.unit (s := S512x6144) ![0, 2048 + 512 * h] S256x512.size iv))
        (View.ld (iblk m c 3 t) (Rect.unit (s := S4x256x1) ![h, 0, 0] S1x256x1.size iz)) (View.ld (iblk m c 4 t) (Rect.unit (s := S4x1x1) ![h, 0, 0] S1x1x1.size ig)))
        (View.ld (iblk m c 0 t) (Rect.unit (s := S512x6144) ![256, 256 * h] S256x256.size iq'))
        (View.ld (iblk m c 0 t) (Rect.unit (s := S512x6144) ![256, 1024 + 256 * h] S256x256.size ik')) (View.ld (iblk m c 0 t) (Rect.unit (s := S512x6144) ![256, 2048 + 512 * h] S256x512.size iv'))
        (View.ld (iblk m c 1 t) (Rect.unit (s := S4x256x256) ![h, 0, 0] S1x256x256.size id)) (View.ld (iblk m c 2 t) (Rect.unit (s := S4x256x1) ![h, 0, 0] S1x256x1.size ix))
        (View.ld (iblk m c 0 t) (Rect.unit (s := S512x6144) ![256, 4096 + 512 * h] S256x512.size io)) z)
      (rowsOf x t y) :=
  rows_piece x t h (256 + ·) _ (second_rows m c t x hX h hh _ (fun a e => first_state m c t x hX P h hh (hP ⟨h, hh⟩) iP ik iv iz ig a e)
    iq' ik' iv' id ix io) y z h0 h1

include hX in
theorem rowsB (h0 : ¬t.val % 4 = 0) (hP : Starts t x (outsAt0 m c (t.val - 1) (Nat.lt_of_le_of_lt (Nat.sub_le _ _) t.isLt)).2)
    (y : S512x2048.Idx) : @Eq EReal ((outsAt0 (F := Ideal) m c t.val t.isLt).1 y) (rowsOf x t y) := by
  rw [outsAt0_B m c t h0]
  dsimp only
  frame_out
  canon_tiles z h
  all_goals simp only [s7, s11, s19, s22, s32, s35, s45, s2, c27, c40, c16, c28, c41, o8, o20, o26, o33, o39, o47, o1]
  · exact head_rows' m c t x hX _ hP 3 (by norm_num) _ _ _ _ _ _ _ _ _ _ _ y z (by omega) (by omega)
  · exact head_rows m c t x hX _ hP 3 (by norm_num) _ _ _ _ _ _ _ y z (by omega) (by omega)
  · exact head_rows' m c t x hX _ hP 2 (by norm_num) _ _ _ _ _ _ _ _ _ _ _ y z (by omega) (by omega)
  · exact head_rows m c t x hX _ hP 2 (by norm_num) _ _ _ _ _ _ _ y z (by omega) (by omega)
  · exact head_rows' m c t x hX _ hP 1 (by norm_num) _ _ _ _ _ _ _ _ _ _ _ y z (by omega) (by omega)
  · exact head_rows m c t x hX _ hP 1 (by norm_num) _ _ _ _ _ _ _ y z (by omega) (by omega)
  · exact head_rows' m c t x hX _ hP 0 (by norm_num) _ _ _ _ _ _ _ _ _ _ _ y z (by omega) (by omega)
  · exact head_rows m c t x hX _ hP 0 (by norm_num) _ _ _ _ _ _ _ y z (by omega) (by omega)

include hX in
theorem rowsA (h0 : t.val % 4 = 0)
    (y : S512x2048.Idx) : @Eq EReal ((outsAt0 (F := Ideal) m c t.val t.isLt).1 y) (rowsOf x t y) := by
  have hP := starts_zero t x h0
  rw [outsAt0_A m c t h0]
  dsimp only
  frame_out
  canon_tiles z h
  all_goals simp only [s7, s11, s19, s22, s32, s35, s45, s2, c27, c40, c16, c28, c41, o8, o20, o26, o33, o39, o47, o1]
  all_goals simp (disch := decide) only [↓View.readCov_skip, View.readCov_fill]
  · exact head_rows' m c t x hX _ hP 3 (by norm_num) _ _ _ _ _ _ _ _ _ _ _ y z (by omega) (by omega)
  · exact head_rows m c t x hX _ hP 3 (by norm_num) _ _ _ _ _ _ _ y z (by omega) (by omega)
  · exact head_rows' m c t x hX _ hP 2 (by norm_num) _ _ _ _ _ _ _ _ _ _ _ y z (by omega) (by omega)
  · exact head_rows m c t x hX _ hP 2 (by norm_num) _ _ _ _ _ _ _ y z (by omega) (by omega)
  · exact head_rows' m c t x hX _ hP 1 (by norm_num) _ _ _ _ _ _ _ _ _ _ _ y z (by omega) (by omega)
  · exact head_rows m c t x hX _ hP 1 (by norm_num) _ _ _ _ _ _ _ y z (by omega) (by omega)
  · exact head_rows' m c t x hX _ hP 0 (by norm_num) _ _ _ _ _ _ _ _ _ _ _ y z (by omega) (by omega)
  · exact head_rows m c t x hX _ hP 0 (by norm_num) _ _ _ _ _ _ _ y z (by omega) (by omega)

end Cert.KernelIdeal.Grid

end
-- ==== Proof.Num.lean ====
/- The projections as real numbers, and the two results as functions of them. -/
module

public import proofs.«01_k».proof.Proof.RetReal
public import proofs.«01_k».proof.Proof.Decay
public import proofs.«01_k».proof.Pre_finite

@[expose] public section

set_option maxRecDepth 16384

noncomputable section

open Idealize.ShloMosaic

namespace Cert.Ret

abbrev SX : Shape := ⟨2, ![16384, 6144]⟩
abbrev SO : Shape := ⟨2, ![16384, 2048]⟩
abbrev SS : Shape := ⟨4, ![8, 4, 256, 512]⟩

/-- The projections' numbers, zero outside the array. -/
def num (X : Vec Ideal SX .bf16) (r c : ℕ) : ℝ :=
  if h : r < 16384 ∧ c < 6144 then EReal.toReal (X (ix2 ⟨r, h.1⟩ ⟨c, h.2⟩)) else 0

/-- The precondition, as its function prints it. -/
def Finite [Cert.Pre_finite.Facts] (X : Vec Ideal SX .bf16) : Prop := ∀ i, Cert.Pre_finite.fn (F := Ideal) X i = 1#1

theorem num_at [Cert.Pre_finite.Facts] (X : Vec Ideal SX .bf16) (hf : Finite X) (r : Fin 16384) (c : Fin 6144) :
    @Eq EReal (X (ix2 r c)) ((num X r.val c.val : ℝ) : EReal) := by
  have h := hf (ix2 r c)
  have top : Ideal.ofBits .f32 0x7F800000#32 = ⊤ := by simp [Ideal.ofBits, Ideal.ieee]
  replace h : Ideal.cmp .olt (max (X (ix2 r c) : EReal) (-(X (ix2 r c) : EReal))) (Ideal.ofBits .f32 0x7F800000#32) = 1#1 := h
  rw [num, dif_pos ⟨r.isLt, c.isLt⟩]
  refine (EReal.coe_toReal (x := X (ix2 r c)) ?_ ?_).symm <;>
    (intro e; rw [e, top] at h; revert h; simp [Ideal.cmp])

theorem num_of [Cert.Pre_finite.Facts] (X : Vec Ideal SX .bf16) (hf : Finite X) (r : Fin 16384) (c : Fin 6144) (r' c' : ℕ)
    (hr : r.val = r') (hc : c.val = c') : @Eq EReal (X (ix2 r c)) ((num X r' c' : ℝ) : EReal) := by
  subst hr hc
  exact num_at X hf r c

/-- The normalised, gated rows. -/
def gated (X : Vec Ideal SX .bf16) (y : SO.Idx) : EReal :=
  row (fun d => ((out (num X) (gam ((y 1).val / 512)) (2048 * ((y 0).val / 2048)) ((y 1).val / 512) ((y 0).val % 2048) d.val : ℝ) : EReal))
    ((num X (y 0).val (4096 + (y 1).val) : ℝ) : EReal) ⟨(y 1).val % 512, Nat.mod_lt _ (by norm_num)⟩

/-- The state after the last row of each sequence. -/
def last (X : Vec Ideal SX .bf16) (y : SS.Idx) : EReal :=
  ((state (num X) (gam (y 1).val) (2048 * (y 0).val) (y 1).val 2048 (y 2).val (y 3).val : ℝ) : EReal)

end Cert.Ret

end
-- ==== Proof.Kern.lean ====
/- The kernel's two arrays after a run, as functions of the projections. -/
module

public import proofs.«01_k».proof.Proof.Grid
public import proofs.«01_k».proof.Proof.Num
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Kern

open Cert.KernelIdeal Cert.KernelIdeal.Gen Cert.KernelIdeal.Head Cert.KernelIdeal.Grid Cert.Ret

/-- Where the two output blocks sit at a grid point. -/
theorem out_idx : ∀ t : Fin cfg0.N, win0_5.index t 0 = t.val ∧ win0_5.index t 1 = 0
    ∧ win0_6.index t 0 = t.val / 4 ∧ win0_6.index t 1 = 0 ∧ win0_6.index t 2 = 0 ∧ win0_6.index t 3 = 0 :=
  (by decide +kernel : ∀ t : Fin grid0.N, win0_5.index t 0 = t.val ∧ win0_5.index t 1 = 0
    ∧ win0_6.index t 0 = t.val / 4 ∧ win0_6.index t 1 = 0 ∧ win0_6.index t 2 = 0 ∧ win0_6.index t 3 = 0)

/-- A row of a point's block is a row of the whole. -/
theorem rows_place (X : Vec Ideal SX .bf16) (t : ℕ) (y : S512x2048.Idx) (i : SO.Idx) (h0 : (i 0).val = 512 * t + (y 0).val)
    (h1 : (i 1).val = (y 1).val) : rowsOf (num X) t y = gated X i := by
  have hy : (y 0).val < 512 := (y 0).isLt
  rw [rowsOf, gated]
  simp only [h0, h1]
  rw [show (512 * t + (y 0).val) / 2048 = t / 4 by omega, show (512 * t + (y 0).val) % 2048 = 512 * (t % 4) + (y 0).val by omega]

/-- The state after the last point of a sequence. -/
theorem state_place (X : Vec Ideal SX .bf16) (t : ℕ) (y : S1x4x256x512.Idx) (i : SS.Idx) (h3 : t % 4 = 3) (e0 : (i 0).val = t / 4)
    (e1 : (i 1).val = (y 1).val) (e2 : (i 2).val = (y 2).val) (e3 : (i 3).val = (y 3).val) : stateOf (num X) t y = last X i := by
  rw [stateOf, last, e0, e1, e2, e3, h3]

variable (m : (ℓ : Loc nD τ sig) → Buf (Elt Ideal) ℓ) (c : Dev nD)

/-- The projections the kernel is called on. -/
abbrev X : Vec Ideal SX .bf16 := m ((c.tc : Thread nD τ).loc main_arg0)

variable [Cert.Pre_finite.Facts] (hf : Finite (X m c))

include hf in
/-- A grid point's block of the projections. -/
theorem block_at (t : Fin cfg0.N) (n : Fin 512) (j : Fin 6144) :
    @Eq EReal (iblk m c 0 t (ix2 n j)) ((num (X m c) (512 * t.val + n.val) j.val : ℝ) : EReal) := by
  have ht : t.val < 32 := t.isLt
  rw [← num_at (X m c) hf ⟨512 * t.val + n.val, by omega⟩ j]
  blk_ext [iblk, V, idx_val t]

include hf in
/-- The state block after every grid point. -/
theorem state_at (t : Fin cfg0.N) (y : S1x4x256x512.Idx) :
    @Eq EReal ((outsAt0 (F := Ideal) m c t.val t.isLt).2 y) (stateOf (num (X m c)) t.val y) := by
  obtain ⟨t, ht⟩ := t
  induction t generalizing y with
  | zero => exact stateA m c ⟨0, ht⟩ _ (block_at m c hf _) rfl y
  | succ t ih =>
    by_cases h0 : (t + 1) % 4 = 0
    · exact stateA m c ⟨t + 1, ht⟩ _ (block_at m c hf _) h0 y
    · refine stateB m c ⟨t + 1, ht⟩ _ (block_at m c hf _) h0 (fun h a e => ?_) y
      refine (ih (ix4 0 h a e) (by omega)).trans ?_
      simp only [stateOf]
      rw [show (t + 1) / 4 = t / 4 by omega, show (t + 1) % 4 = t % 4 + 1 by omega]
      rfl

include hf in
/-- The row block after every grid point. -/
theorem rows_at (t : Fin cfg0.N) (y : S512x2048.Idx) :
    @Eq EReal ((outsAt0 (F := Ideal) m c t.val t.isLt).1 y) (rowsOf (num (X m c)) t.val y) := by
  by_cases h0 : t.val % 4 = 0
  · exact rowsA m c t _ (block_at m c hf t) h0 y
  · refine rowsB m c t _ (block_at m c hf t) h0 (fun h a e => ?_) y
    refine (state_at m c hf ⟨t.val - 1, by omega⟩ (ix4 0 h a e)).trans ?_
    simp only [stateOf]
    rw [show (t.val - 1) / 4 = t.val / 4 by omega, show (t.val - 1) % 4 + 1 = t.val % 4 by omega]
    rfl

include hf in
/-- The array of rows after a run. -/
theorem final_rows : (dats m 0 c).arrAt 5 cfg0.N = gated (X m c) := by
  refine (dats m 0 c).arrAt_eq_of_covers 5 _ (by decide +kernel) fun t _ y => ?_
  blk_simp
  rw [after0_5]
  refine (rows_at m c hf t y).trans (rows_place _ _ _ _ ?_ ?_)
  · blk_simp [out_idx t]
    omega
  · blk_simp [out_idx t]

include hf in
/-- The array of states after a run. -/
theorem final_states : (dats m 0 c).arrAt 6 cfg0.N = last (X m c) := by
  refine (dats m 0 c).arrAt_eq_of_covers 6 _ (by decide +kernel) fun t hfl y => ?_
  blk_simp
  rw [after0_6]
  have h3 := (flush0_6 t).mp hfl
  refine (state_at m c hf t y).trans (state_place _ _ _ _ h3 ?_ ?_ ?_ ?_)
  · blk_simp [out_idx t]
  · blk_simp [out_idx t]
  · blk_simp [out_idx t]
  · blk_simp [out_idx t]

end Cert.KernelIdeal.Kern

end
-- ==== Proof.Trip.lean ====
/- The retention's reference as its trip iterated: the loop carries the chunks, the tables and the trip's number, and
   one trip of the loop is `Step.step`. -/
module

public import proofs.«01_k».proof.Proof.Gen.ReferenceIdeal.Run
public import proofs.«01_k».proof.Proof.Gen.ReferenceIdeal.Step

@[expose] public section

set_option maxRecDepth 16384

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init b5 b11 b17)

variable {F : FTy → Type} [FloatOps F]

/-- The loop's buffers `V` hold the state `s`, the tables, and the number `j`. -/
structure At (V : Valuation τ sig (Elt F)) (s : State F) (j : ℕ) : Prop where
  state : V (Proc.devRef .tc main_v64_8) = s.main_v64_8
  outs : V (Proc.devRef .tc main_v64_9) = s.main_v64_9
  q : V (Proc.devRef .tc main_v64_0) = s.main_v64_0
  k : V (Proc.devRef .tc main_v64_1) = s.main_v64_1
  v : V (Proc.devRef .tc main_v64_2) = s.main_v64_2
  num : V (Proc.devRef .tc main_v64_7) = constantI S_ 32 (BitVec.ofNat 32 j)
  decay : V (Proc.devRef .tc main_v64_3) = Step.K_main_v37 (F := F)
  xi : V (Proc.devRef .tc main_v64_4) = Step.K_main_v45 (F := F)
  gc : V (Proc.devRef .tc main_v64_5) = Step.K_main_v56 (F := F)
  zeta : V (Proc.devRef .tc main_v64_6) = Step.K_main_v53 (F := F)

variable {V : Valuation τ sig (Elt F)} {s : State F} {j : ℕ}

theorem q_eq (h : At V s j) : res_main_while0b_v93 V = b5 j s := by
  unfold res_main_while0b_v93
  rw [h.q, h.num]
  rfl

theorem k_eq (h : At V s j) : res_main_while0b_v94 V = b11 j s := by
  unfold res_main_while0b_v94
  rw [h.k, h.num]
  rfl

theorem v_eq (h : At V s j) : res_main_while0b_v95 V = b17 j s := by
  unfold res_main_while0b_v95
  rw [h.v, h.num]
  rfl

theorem state_eq (h : At V s j) : step_main_v64_8 V = (step j s).main_v64_8 := by
  unfold step_main_v64_8
  rw [k_eq h, v_eq h, h.gc, h.state, h.zeta]
  rfl

theorem outs_eq (h : At V s j) : step_main_v64_9 V = (step j s).main_v64_9 := by
  unfold step_main_v64_9
  rw [q_eq h, k_eq h, v_eq h, h.outs, h.decay, h.state, h.xi, h.num]
  rfl

theorem num_eq (h : At V s j) : step_main_v64_7 V = constantI S_ 32 (BitVec.ofNat 32 (j + 1)) := by
  unfold step_main_v64_7
  rw [h.num]
  funext i
  exact BitVec.ofNat_add j 1 |>.symm

/-- One trip takes the state to `step` of it and the number to the next. -/
theorem next (h : At V s j) : At (STEP V) (step j s) (j + 1) :=
  ⟨(STEP_main_v64_8 V).trans (state_eq h), (STEP_main_v64_9 V).trans (outs_eq h), (STEP_main_v64_0 V).trans h.q,
    (STEP_main_v64_1 V).trans h.k, (STEP_main_v64_2 V).trans h.v, (STEP_main_v64_7 V).trans (num_eq h),
    (STEP_main_v64_3 V).trans h.decay, (STEP_main_v64_4 V).trans h.xi, (STEP_main_v64_5 V).trans h.gc,
    (STEP_main_v64_6 V).trans h.zeta⟩

variable (m : (ℓ : Loc nD τ sig) → Buf (Elt F) ℓ) (c : Dev nD)

/-- The states, from the one the operations before the loop leave. -/
def it (x : (⟨S16384x6144, .bf16⟩ : BufTy).Contents (Elt F)) : ℕ → State F
  | 0 => init x
  | n + 1 => step n (it x n)

set_option maxRecDepth 65536 in
set_option maxHeartbeats 500000 in
theorem start : At (entryContents preI m c) (init (m ((c.tc : Thread nD τ).loc main_arg0))) 0 := by
  constructor <;> (simp only [entryContents, afterL_cons, afterL_nil]; after_reads_simp) <;> rfl

theorem at_trip : ∀ n, At (STEP^[n] (entryContents preI m c)) (it (m ((c.tc : Thread nD τ).loc main_arg0)) n) n
  | 0 => start m c
  | n + 1 => by
    rw [Function.iterate_succ_apply']
    exact next (at_trip n)

theorem gated (h : At V s j) {x : (⟨S16384x6144, .bf16⟩ : BufTy).Contents (Elt F)}
    (hx : V (Proc.devRef .tc main_arg0) = x) : out_main_v92 V = Step.R_main_v92 s x := by
  unfold out_main_v92 Step.R_main_v92
  rw [h.outs, hx]
  try rfl

/-- Every run of the reference ends with the gated outputs and the state of the sixteenth trip. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v92)
          = Step.R_main_v92 (it (m ((c.tc : Thread nD τ).loc main_arg0)) 16) (m ((c.tc : Thread nD τ).loc main_arg0))
      ∧ r.2.mem ((c.tc : Thread nD τ).loc main_v64_8) = (it (m ((c.tc : Thread nD τ).loc main_arg0)) 16).main_v64_8
      ∧ r.2.mem ((c.tc : Thread nD τ).loc main_arg0) = m ((c.tc : Thread nD τ).loc main_arg0) :=
  (θ_run defs _ _).mono (fun _ h c =>
    ⟨(h c).1.trans (gated (at_trip m c 16) (iter_main_arg0 m c 16)),
      (h c).2.1.trans (at_trip m c 16).state, (h c).2.2⟩) (Value.run m ρ)

end Cert.ReferenceIdeal.Trip

end
-- ==== Proof.RefRet.lean ====
/- The retention's reference, trip by trip: the carried state and the chunks written so far are the recurrence's. -/
module

public import proofs.«01_k».proof.Proof.Trip
public import proofs.«01_k».proof.Proof.Tables
public import proofs.«01_k».proof.Proof.Num
public import Idealize.ShloMosaic.Lib.DynamicIndex

@[expose] public section

set_option maxRecDepth 16384

noncomputable section

open Idealize.ShloMosaic Idealize.ShloMosaic.TcCoe Idealize.SL.Sem

namespace Cert.ReferenceIdeal.RefRet

open Cert.ReferenceIdeal Cert.ReferenceIdeal.Gen Cert.ReferenceIdeal.Step Cert.Ret

variable (X : Vec Ideal SX .bf16) [Cert.Pre_finite.Facts] (hf : Finite X)

include hf in
theorem q_at (j : Fin 16) (b : Fin 8) (n : Fin 128) (h : Fin 4) (a : Fin 256) :
    @Eq EReal (A_main_v58 (F := Ideal) X (ix5 j b n h a))
      ((num X (2048 * b.val + (128 * j.val + n.val)) (256 * h.val + a.val) * (1 / 16) : ℝ) : EReal) := by
  rw [EReal.coe_mul, ← ofBits_sixteenth]
  pointwise [A_main_v58, A_main_v57, A_main_v8, A_main_v6, A_main_v2, A_main_v1, A_main_v0, K_main_v7, K_main_cst]
  exact congrArg (· * Ideal.ofBits .f32 0x3D800000#32) (num_of X hf _ _ _ _ (by simp only; omega) (by simp only; omega))

include hf in
theorem k_at (j : Fin 16) (b : Fin 8) (n : Fin 128) (h : Fin 4) (a : Fin 256) :
    @Eq EReal (A_main_v60 (F := Ideal) X (ix5 j b n h a))
      ((num X (2048 * b.val + (128 * j.val + n.val)) (1024 + 256 * h.val + a.val) : ℝ) : EReal) := by
  pointwise [A_main_v60, A_main_v59, A_main_v9, A_main_v3, A_main_v1, A_main_v0]
  exact num_of X hf _ _ _ _ (by simp only; omega) (by simp only; omega)

include hf in
theorem v_at (j : Fin 16) (b : Fin 8) (n : Fin 128) (h : Fin 4) (e : Fin 512) :
    @Eq EReal (A_main_v62 (F := Ideal) X (ix5 j b n h e))
      ((num X (2048 * b.val + (128 * j.val + n.val)) (2048 + 512 * h.val + e.val) : ℝ) : EReal) := by
  pointwise [A_main_v62, A_main_v61, A_main_v10, A_main_v4, A_main_v1, A_main_v0]
  exact num_of X hf _ _ _ _ (by simp only; omega) (by simp only; omega)

theorem start_at (j : ℕ) (hj : j < 16) (k : Fin 5) :
    (((![(constantI S_ 32 (BitVec.ofNat 32 j) : (⟨S_, .i32⟩ : BufTy).Contents (Elt Ideal)), constantI S_ 32 0#32, constantI S_ 32 0#32,
      constantI S_ 32 0#32, constantI S_ 32 0#32] : Fin 5 → (⟨S_, .i32⟩ : BufTy).Contents (Elt Ideal)) k (Shape.Idx.first h_S_)) : BitVec 32).toInt
      = ((![j, 0, 0, 0, 0] : Fin 5 → ℕ) k : Int) := by
  fin_cases k
  · exact toInt_ofNat_of_lt (by omega)
  all_goals rfl

theorem fits (j : ℕ) (hj : j < 16) (d : ℕ) : (⟨5, ![16, 8, 128, 4, d]⟩ : Shape).Slices ![j, 0, 0, 0, 0] ⟨5, ![1, 8, 128, 4, d]⟩ := by
  refine ⟨rfl, fun k => ?_⟩
  fin_cases k <;> simp <;> omega

variable (s : State Ideal) (j : Fin 16)

theorem b5_at (b : Fin 8) (n : Fin 128) (h : Fin 4) (a : Fin 256) : b5 j.val s (ix4 b n h a) = s.main_v64_0 (ix5 j b n h a) := by
  unfold b5 b4
  rw [Host.dynamicSlice_eq_extractStridedSlice _ _ _ ![j.val, 0, 0, 0, 0] _ (fits j j.isLt 256) (start_at j j.isLt)]
  pointwise []

theorem b11_at (b : Fin 8) (n : Fin 128) (h : Fin 4) (a : Fin 256) : b11 j.val s (ix4 b n h a) = s.main_v64_1 (ix5 j b n h a) := by
  unfold b11 b10
  rw [Host.dynamicSlice_eq_extractStridedSlice _ _ _ ![j.val, 0, 0, 0, 0] _ (fits j j.isLt 256) (start_at j j.isLt)]
  pointwise []

theorem b17_at (b : Fin 8) (n : Fin 128) (h : Fin 4) (e : Fin 512) : b17 j.val s (ix4 b n h e) = s.main_v64_2 (ix5 j b n h e) := by
  unfold b17 b16
  rw [Host.dynamicSlice_eq_extractStridedSlice _ _ _ ![j.val, 0, 0, 0, 0] _ (fits j j.isLt 512) (start_at j j.isLt)]
  pointwise []

theorem b37_at (b : Fin 8) (h : Fin 4) (a : Fin 256) (e : Fin 512) : @Eq EReal (b37 j.val s (ix4 b h a e))
    (K_main_v56 (F := Ideal) (ix1 h) * s.main_v64_8 (ix4 b h a e)
      + ∑ n, b11 j.val s (ix4 b n h a) * K_main_v53 (F := Ideal) (ix2 n h) * b17 j.val s (ix4 b n h e)) := by
  unfold b37 b36 b35 b34 b33 b32 b31 b30
  pointwise []

theorem b29_at (b : Fin 8) (n : Fin 128) (h : Fin 4) (e : Fin 512) : @Eq EReal (b29 j.val s (ix4 b n h e))
    (∑ k, b17 j.val s (ix4 b k h e) * ((∑ a, b5 j.val s (ix4 b n h a) * b11 j.val s (ix4 b k h a)) * K_main_v37 (F := Ideal) (ix3 h n k))
      + (∑ a, s.main_v64_8 (ix4 b h a e) * b5 j.val s (ix4 b n h a)) * K_main_v45 (F := Ideal) (ix2 n h)) := by
  unfold b29 b28 b27 b26 b25 b24 b23 b22 b21 b20 b19 b18
  pointwise []

/-- After `T` trips: the arrays the trips read, the carried state, and the chunks written. -/
structure Good (s : State Ideal) (T : ℕ) : Prop where
  q : s.main_v64_0 = A_main_v58 X
  k : s.main_v64_1 = A_main_v60 X
  v : s.main_v64_2 = A_main_v62 X
  state : ∀ (b : Fin 8) (h : Fin 4) (a : Fin 256) (e : Fin 512), @Eq EReal (s.main_v64_8 (ix4 b h a e))
    ((state (num X) (gam h.val) (2048 * b.val) h.val (128 * T) a.val e.val : ℝ) : EReal)
  outs : ∀ (i : Fin 16) (b : Fin 8) (n : Fin 128) (h : Fin 4) (e : Fin 512), i.val < T → @Eq EReal (s.main_v64_9 (ix5 i b n h e))
    ((out (num X) (gam h.val) (2048 * b.val) h.val (128 * i.val + n.val) e.val : ℝ) : EReal)

theorem good_init : Good X (init X) 0 := by
  refine ⟨rfl, rfl, rfl, fun b h a e => ?_, fun i b n h e hi => absurd hi (Nat.not_lt_zero _)⟩
  pointwise [init, K_main_v11, K_main_cst_0]
  rfl

variable {X} {s} {j}

include hf in
theorem next_state (g : Good X s j.val) (b : Fin 8) (h : Fin 4) (a : Fin 256) (e : Fin 512) : @Eq EReal (b37 j.val s (ix4 b h a e))
    ((state (num X) (gam h.val) (2048 * b.val) h.val (128 * (j.val + 1)) a.val e.val : ℝ) : EReal) := by
  rw [b37_at, g.state, Tables.g_at]
  simp only [b11_at, b17_at, g.k, g.v, k_at X hf, v_at X hf, Tables.zeta_at]
  rw [show 128 * (j.val + 1) = 128 * j.val + 128 by omega, ← chunk_state]
  push_cast
  rfl

include hf in
theorem next_out (g : Good X s j.val) (b : Fin 8) (n : Fin 128) (h : Fin 4) (e : Fin 512) : @Eq EReal (b29 j.val s (ix4 b n h e))
    ((out (num X) (gam h.val) (2048 * b.val) h.val (128 * j.val + n.val) e.val : ℝ) : EReal) := by
  rw [b29_at, Tables.xi_at]
  simp only [g.state, b5_at, b11_at, b17_at, g.q, g.k, g.v, q_at X hf, k_at X hf, v_at X hf, Tables.decay_at]
  rw [← chunk_out _ _ _ _ (128 * j.val) 128 n e.val, EReal.coe_add, coe_sum, EReal.coe_mul, coe_sum]
  refine congrArg₂ (· + ·) (Finset.sum_congr rfl fun k _ => ?_) (congrArg (· * _) (Finset.sum_congr rfl fun a _ => ?_))
  · rw [EReal.coe_mul, EReal.coe_mul, coe_sum, mul_comm]
    exact congrArg (· * _) (congrArg (· * _) (Finset.sum_congr rfl fun a _ => (EReal.coe_mul _ _).symm))
  · rw [mul_comm]
    exact (EReal.coe_mul _ _).symm

/-- A trip's chunk of outputs, put where it goes, with the others as they were. -/
theorem b43_at (i : Fin 16) (b : Fin 8) (n : Fin 128) (h : Fin 4) (e : Fin 512) : b43 j.val s (ix5 i b n h e)
    = if i = j then b29 j.val s (ix4 b n h e) else s.main_v64_9 (ix5 i b n h e) := by
  unfold b43
  rw [Host.dynamicUpdateSlice_eq_updateSlice _ _ _ _ ![j.val, 0, 0, 0, 0] (fun k => ?_) (fits j j.isLt 512)]
  · unfold b38
    split
    · next hi =>
      subst hi
      pointwise []
      exact dif_pos ⟨le_rfl, Nat.lt_succ_self _⟩
    · next hi =>
      pointwise []
      exact dif_neg fun h => hi (Fin.ext (by omega))
  · refine (congrArg (fun z : ℤ => (min (max z 0) _).toNat) (start_at j j.isLt k)).trans ?_
    have := j.isLt
    fin_cases k
    · show (min (max (j.val : ℤ) 0) ((16 - 1 : ℕ) : ℤ)).toNat = j.val
      omega
    all_goals rfl

include hf in
theorem good_next (g : Good X s j.val) : Good X (step j.val s) (j.val + 1) := by
  refine ⟨g.q, g.k, g.v, fun b h a e => ?_, fun i b n h e hi => ?_⟩
  · rw [step_main_v64_8]
    exact next_state hf g b h a e
  · rw [step_main_v64_9, b43_at]
    split
    · next hj =>
      subst hj
      exact next_out hf g b n h e
    · next hj => exact g.outs i b n h e (by have := fun h => hj (Fin.ext h); omega)

include hf in
theorem good_trips : ∀ T, T ≤ 16 → Good X (Trip.it X T) T
  | 0, _ => good_init X
  | T + 1, hT => good_next (j := ⟨T, hT⟩) hf (good_trips T (Nat.le_of_succ_le hT))

include hf in
theorem states : (Trip.it X 16).main_v64_8 = last X := by
  funext y
  refine (congrArg _ (by funext k; fin_cases k <;> rfl : y = ix4 (y 0) (y 1) (y 2) (y 3))).trans ?_
  exact (good_trips hf 16 le_rfl).state (y 0) (y 1) (y 2) (y 3)

end Cert.ReferenceIdeal.RefRet

end
-- ==== Proof.RefRow.lean ====
/- The retention's reference after its loop: the sixteen chunks laid end to end, normalised head by head and gated. -/
module

public import proofs.«01_k».proof.Proof.RefRet

@[expose] public section

set_option maxRecDepth 16384

noncomputable section

open Idealize.ShloMosaic Idealize.ShloMosaic.TcCoe Idealize.SL.Sem

namespace Cert.ReferenceIdeal.RefRet

open Cert.ReferenceIdeal Cert.ReferenceIdeal.Gen Cert.ReferenceIdeal.Step Cert.Ret

/-- The chunks end to end. -/
def seq (O : FVec Ideal S16x8x128x4x512 .f32) : FVec Ideal S8x2048x4x512 .f32 :=
  shapeCast _ (transpose S8x16x128x4x512 [1, 0, 2, 3, 4] O transposes_S16x8x128x4x512_S8x16x128x4x512_1_0_2_3_4)
    shapeCasts_S8x16x128x4x512_S8x2048x4x512

/-- The mean over a head, kept as a column. -/
def avg (N : FVec Ideal S8x2048x4x512 .f32) : FVec Ideal S8x2048x4x1 .f32 :=
  Host.divf (broadcastInDim S8x2048x4x1 ![0, 1, 2] bcast_S8x2048x4_S8x2048x4x1_0_1_2
    (Host.reduceAdd N (constant S_ .f32 0x00000000#32) reducesTo_S8x2048x4x512_S8x2048x4_d3 h_S_))
    (broadcastInDim S8x2048x4x1 ![] bcast_S_S8x2048x4x1 (constant S_ .f32 0x44000000#32))

/-- A head less its mean. -/
def dev (N : FVec Ideal S8x2048x4x512 .f32) : FVec Ideal S8x2048x4x512 .f32 :=
  subf N (broadcastInDim S8x2048x4x512 ![0, 1, 2, 3] bcast_S8x2048x4x1_S8x2048x4x512_0_1_2_3 (avg N))

/-- A head normalised. -/
def norm (N : FVec Ideal S8x2048x4x512 .f32) : FVec Ideal S8x2048x4x512 .f32 :=
  mulf (dev N) (broadcastInDim S8x2048x4x512 ![0, 1, 2, 3] bcast_S8x2048x4x1_S8x2048x4x512_0_1_2_3
    (Host.rsqrt (addf (avg (mulf (dev N) (dev N))) (broadcastInDim S8x2048x4x1 ![] bcast_S_S8x2048x4x1 (constant S_ .f32 0x3727C5AC#32)))))

/-- The gate's columns. -/
def cols (X : Vec Ideal SX .bf16) : FVec Ideal S8x2048x2048 .f32 :=
  extractStridedSlice S8x2048x2048 ![0, 0, 4096] (shapeCast _ (extf .f32 X bitsLt_bf16_f32) shapeCasts_S16384x6144_S8x2048x6144)
    slices_S8x2048x6144_S8x2048x2048_0_0_4096

/-- A gate times its logistic. -/
def swish (G : FVec Ideal S8x2048x2048 .f32) : FVec Ideal S8x2048x2048 .f32 :=
  mulf G (Host.divf (broadcastInDim S8x2048x2048 ![] bcast_S_S8x2048x2048 (constant S_ .f32 0x3F800000#32))
    (addf (broadcastInDim S8x2048x2048 ![] bcast_S_S8x2048x2048 (constant S_ .f32 0x3F800000#32)) (Host.exp (Host.negf G))))

theorem after_loop (s : State Ideal) (X : Vec Ideal SX .bf16) : R_main_v92 s X
    = shapeCast S16384x2048 (truncf .bf16 (mulf (shapeCast S8x2048x2048 (norm (seq s.main_v64_9)) shapeCasts_S8x2048x4x512_S8x2048x2048)
      (swish (cols X))) bitsLt_bf16_f32) shapeCasts_S8x2048x2048_S16384x2048 := rfl

variable (N : FVec Ideal S8x2048x4x512 .f32)

theorem avg_at (b : Fin 8) (t : Fin 2048) (h : Fin 4) : @Eq EReal (avg N (ix4 b t h 0)) (mean fun d => N (ix4 b t h d)) := by
  unfold avg mean
  pointwise []

theorem dev_at (b : Fin 8) (t : Fin 2048) (h : Fin 4) (e : Fin 512) :
    @Eq EReal (dev N (ix4 b t h e)) ((N (ix4 b t h e) : EReal) - mean fun d => N (ix4 b t h d)) := by
  rw [← avg_at]
  unfold dev
  pointwise []

theorem norm_at (b : Fin 8) (t : Fin 2048) (h : Fin 4) (e : Fin 512) (g : EReal) :
    @Eq EReal ((norm N (ix4 b t h e) : EReal) * (g * Ideal.logistic g)) (row (fun d => N (ix4 b t h d)) g e) := by
  unfold row
  simp only [← dev_at]
  have := avg_at (mulf (dev N) (dev N)) b t h
  unfold norm
  refine congrArg (· * _) ?_
  pointwise []
  rw [this]
  rfl

theorem seq_at (O : FVec Ideal S16x8x128x4x512 .f32) (b : Fin 8) (t : Fin 2048) (h : Fin 4) (e : Fin 512) : seq O (ix4 b t h e)
    = O (ix5 ⟨t.val / 128, by omega⟩ b ⟨t.val % 128, by omega⟩ h e) := by
  unfold seq
  pointwise []

theorem swish_at (G : FVec Ideal S8x2048x2048 .f32) (i : S8x2048x2048.Idx) :
    @Eq EReal (swish G i) ((G i : EReal) * Ideal.logistic (G i : EReal)) := by
  unfold swish
  pointwise [Ideal.logistic]

/-- The product's entry in the result. -/
theorem place (M : FVec Ideal S8x2048x4x512 .f32) (G : FVec Ideal S8x2048x2048 .f32) (r : Fin 16384) (k : Fin 2048) :
    @Eq EReal (shapeCast S16384x2048 (truncf .bf16 (mulf (shapeCast S8x2048x2048 M shapeCasts_S8x2048x4x512_S8x2048x2048)
      G) bitsLt_bf16_f32) shapeCasts_S8x2048x2048_S16384x2048 (ix2 r k))
    (M (ix4 ⟨r.val / 2048, by omega⟩ ⟨r.val % 2048, by omega⟩ ⟨k.val / 512, by omega⟩ ⟨k.val % 512, by omega⟩)
      * G (ix3 ⟨r.val / 2048, by omega⟩ ⟨r.val % 2048, by omega⟩ k)) := by
  pointwise []

variable (X : Vec Ideal SX .bf16) [Cert.Pre_finite.Facts] (hf : Finite X)

include hf in
theorem cols_at (b : Fin 8) (t k : Fin 2048) : @Eq EReal (cols X (ix3 b t k)) ((num X (2048 * b.val + t.val) (4096 + k.val) : ℝ) : EReal) := by
  unfold cols
  pointwise []
  exact num_of X hf _ _ _ _ (by simp only; omega) (by simp only)

include hf in
theorem rows : R_main_v92 (Trip.it X 16) X = gated X := by
  have g := good_trips hf 16 le_rfl
  rw [after_loop]
  generalize Trip.it X 16 = s at g
  funext y
  obtain ⟨r, k, rfl⟩ : ∃ (r : Fin 16384) (k : Fin 2048), y = ix2 r k := ⟨y 0, y 1, by funext a; fin_cases a <;> rfl⟩
  rw [place, swish_at, cols_at X hf, norm_at]
  simp only [seq_at, g.outs _ _ _ _ _ (Fin.isLt _), Nat.div_add_mod]
  unfold gated
  rfl

end Cert.ReferenceIdeal.RefRet

end
-- ==== Proof.Ret.lean ====
/- The retention: the kernel's two arrays and the reference's are the same functions of the projections. -/
module

public import proofs.«01_k».proof.Proof.Kern
public import proofs.«01_k».proof.Proof.RefRow

@[expose] public section

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel7Ideal.Frame
public import proofs.«01_k».proof.Proof.Ffn
public import proofs.«01_k».proof.Proof.Ffn4
public import proofs.«01_k».proof.Proof.Ffn5
public import proofs.«01_k».proof.Proof.Ffn6
public import proofs.«01_k».proof.Proof.Samp
public import proofs.«01_k».proof.Proof.AttnA
public import proofs.«01_k».proof.Proof.AttnB
public import proofs.«01_k».proof.Proof.AttnD
public import proofs.«01_k».proof.Proof.Gen.Kernel10.Frame
public import proofs.«01_k».proof.Proof.Gen.Kernel9.Frame
public import proofs.«01_k».proof.Proof.Gen.Kernel8.Frame
public import proofs.«01_k».proof.Proof.Gen.Reference7Ideal.Read
public import proofs.«01_k».proof.Proof.Proj
public import proofs.«01_k».proof.Proof.Gen.ReferenceIdeal.Run
public import proofs.«01_k».proof.Proof.Ret
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The retention's reference runs, keeps its argument and ends quiescent. -/
theorem frame_ref : Cert.quiescent_ReferenceIdeal (hReferenceIdeal := Cert.ReferenceIdeal.Gen.facts) :=
  fun m ρ _ => (θ_run _ _ _).mono (fun r h => ⟨fun c => (h c).2.2, sem_eq_zero_of_no_sems (by decide) r.2⟩)
    (Cert.ReferenceIdeal.Value.run m ρ)

/-- The feed-forward layer's reference runs, keeps its arguments and ends quiescent. -/
theorem frame_ref2 : Cert.quiescent_Reference2Ideal (hReference2Ideal := Cert.Reference2Ideal.Gen.facts) :=
  fun m ρ _ => (θ_run _ _ _).mono (fun r h => ⟨fun c => (h c).2, sem_eq_zero_of_no_sems (by decide) r.2⟩)
    (Cert.Reference2Ideal.Value.run m ρ)

/-- The projection's reference runs, keeps its arguments and ends quiescent. -/
theorem frame_ref3 : Cert.quiescent_Reference3Ideal (hReference3Ideal := Cert.Reference3Ideal.Gen.facts) :=
  fun m ρ _ => (θ_run _ _ _).mono (fun r h => ⟨fun c => (h c).2, sem_eq_zero_of_no_sems (by decide) r.2⟩)
    (Cert.Reference3Ideal.Value.run m ρ)

/-- The attention layer's feed-forward reference runs, keeps its arguments and ends quiescent. -/
theorem frame_ref4 : Cert.quiescent_Reference4Ideal (hReference4Ideal := Cert.Reference4Ideal.Gen.facts) :=
  fun m ρ _ => (θ_run _ _ _).mono (fun r h => ⟨fun c => (h c).2, sem_eq_zero_of_no_sems (by decide) r.2⟩)
    (Cert.Reference4Ideal.Value.run m ρ)

/-- The pooling layer's feed-forward reference runs, keeps its arguments and ends quiescent. -/
theorem frame_ref5 : Cert.quiescent_Reference5Ideal (hReference5Ideal := Cert.Reference5Ideal.Gen.facts) :=
  fun m ρ _ => (θ_run _ _ _).mono (fun r h => ⟨fun c => (h c).2, sem_eq_zero_of_no_sems (by decide) r.2⟩)
    (Cert.Reference5Ideal.Value.run m ρ)

/-- The sample's feed-forward reference runs, keeps its arguments and ends quiescent. -/
theorem frame_ref6 : Cert.quiescent_Reference6Ideal (hReference6Ideal := Cert.Reference6Ideal.Gen.facts) :=
  fun m ρ _ => (θ_run _ _ _).mono (fun r h => ⟨fun c => (h c).2, sem_eq_zero_of_no_sems (by decide) r.2⟩)
    (Cert.Reference6Ideal.Value.run m ρ)

/-- The sample's projection reference runs, keeps its arguments and ends quiescent. -/
theorem frame_ref7 : Cert.quiescent_Reference7Ideal (hReference7Ideal := Cert.Reference7Ideal.Gen.facts) :=
  fun m ρ _ => (θ_run _ _ _).mono (fun r h => ⟨fun c => (h c).2.2.2, sem_eq_zero_of_no_sems (by decide) r.2⟩)
    (Cert.Reference7Ideal.Value.run m ρ)

/-- The feed-forward kernel computes its reference. -/
theorem alg2 : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    refine (Cert.Reference2Ideal.Read.val_main_v62_eq m' c).trans ?_
    obtain ⟨h0, h1, h2, h3, h4, h5⟩ := hagree c
    rw [h0, h1, h2, h3, h4, h5]
    refine Eq.trans ?_ (Cert.Kernel2Ideal.Ffn.final m c).symm
    exact funext fun y => Cert.Reference2Ideal.Ffn.out_eq _ _ _ _ _ _ y

/-- The projection kernel computes its reference. -/
theorem alg3 : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    exact (Cert.Kernel3Ideal.Proj.final m c).symm

/-- The attention layer's feed-forward kernel computes its reference. -/
theorem alg4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    refine (Cert.Reference4Ideal.Read.val_main_v61_eq m' c).trans ?_
    obtain ⟨h0, h1, h2, h3, h4, h5⟩ := hagree c
    rw [h0, h1, h2, h3, h4, h5]
    refine Eq.trans ?_ (Cert.Kernel4Ideal.Ffn.final m c).symm
    exact funext fun y => Cert.Reference4Ideal.Ffn.out_eq _ _ _ _ _ _ y

/-- The pooling layer's feed-forward kernel computes its reference. -/
theorem alg5 : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    refine (Cert.Reference5Ideal.Read.val_main_v42_eq m' c).trans ?_
    obtain ⟨h0, h1, h2, h3⟩ := hagree c
    rw [h0, h1, h2, h3]
    refine Eq.trans ?_ (Cert.Kernel5Ideal.Ffn.final m c).symm
    exact funext fun y => Cert.Reference5Ideal.Ffn.out_eq _ _ _ _ y

/-- The sample's feed-forward kernel computes its reference. -/
theorem alg6 : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · run_from Cert.Reference6Ideal.Value.run m' g'
    refine (Cert.Reference6Ideal.Read.val_main_v62_eq m' c).trans ?_
    obtain ⟨h0, h1, h2, h3, h4, h5⟩ := hagree c
    rw [h0, h1, h2, h3, h4, h5]
    refine Eq.trans ?_ (Cert.Kernel6Ideal.Ffn.final m c).symm
    exact funext fun y => Cert.Reference6Ideal.Ffn.out_eq _ _ _ _ _ _ y

/-- The projection before the attention keeps its reference's obligations. -/
theorem frame_ref8 : Cert.quiescent_Reference8Ideal (hReference8Ideal := Cert.Reference8Ideal.Gen.facts) :=
  fun m ρ _ => (θ_run _ _ _).mono (fun r h => ⟨fun c => (h c).2.2, sem_eq_zero_of_no_sems (by decide) r.2⟩)
    (Cert.Reference8Ideal.Value.run m ρ)

/-- The same, second group. -/
theorem frame_ref9 : Cert.quiescent_Reference9Ideal (hReference9Ideal := Cert.Reference9Ideal.Gen.facts) :=
  fun m ρ _ => (θ_run _ _ _).mono (fun r h => ⟨fun c => (h c).2.2, sem_eq_zero_of_no_sems (by decide) r.2⟩)
    (Cert.Reference9Ideal.Value.run m ρ)

/-- The same, third group. -/
theorem frame_ref10 : Cert.quiescent_Reference10Ideal (hReference10Ideal := Cert.Reference10Ideal.Gen.facts) :=
  fun m ρ _ => (θ_run _ _ _).mono (fun r h => ⟨fun c => (h c).2.2, sem_eq_zero_of_no_sems (by decide) r.2⟩)
    (Cert.Reference10Ideal.Value.run m ρ)

/-- The precondition's function states its shape facts. -/
theorem factsFinite : Cert.Pre_finite.Facts := ⟨by decide, by decide⟩

/-- The retention kernel computes its reference on finite projections. -/
theorem alg1 : Cert.algebraic_KernelIdeal_ReferenceIdeal_pre_finite (hKernelIdeal := Cert.KernelIdeal.Gen.facts)
    (hReferenceIdeal := Cert.ReferenceIdeal.Gen.facts) (hPre_finite := factsFinite) := by
  letI := factsFinite
  pair_intro
  · run_from Cert.KernelIdeal.Value.run_blocks m g
  · run_from Cert.ReferenceIdeal.Trip.run m' g'
    · exact (Cert.ReferenceIdeal.RefRet.rows _ (fun i => congrFun (hpre c) i)).trans
        (Cert.KernelIdeal.Kern.final_rows m c (fun i => congrFun (hpre c) i)).symm
    · exact (Cert.ReferenceIdeal.RefRet.states (fun i => congrFun (hpre c) i)).trans
        (Cert.KernelIdeal.Kern.final_states m c (fun i => congrFun (hpre c) i)).symm

/-- The sample's projection kernel computes its reference. -/
theorem alg7 : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
    · exact Cert.Kernel7Ideal.Gen.W_main_arg1 m _ c
    · exact Cert.Kernel7Ideal.Gen.W_main_arg2 m _ c
  · run_from Cert.Reference7Ideal.Value.run m' g'
    · rw [Cert.Reference7Ideal.Read.val_main_v21_eq, Cert.Kernel7Ideal.Samp.res0]
      funext y
      refine (Cert.Kernel7Ideal.Samp.cut0 _ y).trans (Eq.trans ?_ (Cert.Kernel7Ideal.Samp.cut0 _ y).symm)
      exact (Cert.Kernel7Ideal.Samp.ref_row _ _ _ _ _).trans
        (Cert.Kernel7Ideal.Samp.array_eq m c _ _ (Cert.Kernel7Ideal.Samp.col_mod _ _ _ _ _)).symm
    · rw [Cert.Reference7Ideal.Read.val_main_v23_eq, Cert.Kernel7Ideal.Samp.res1]
      funext y
      refine (Cert.Kernel7Ideal.Samp.cut1 _ y).trans (Eq.trans ?_ (Cert.Kernel7Ideal.Samp.cut1 _ y).symm)
      exact (Cert.Kernel7Ideal.Samp.ref_row _ _ _ _ _).trans
        (Cert.Kernel7Ideal.Samp.array_eq m c _ _ (Cert.Kernel7Ideal.Samp.col_mod _ _ _ _ _)).symm
    · rw [Cert.Reference7Ideal.Read.val_main_v25_eq, Cert.Kernel7Ideal.Samp.res2]
      funext y
      refine (Cert.Kernel7Ideal.Samp.cut2 _ y).trans (Eq.trans ?_ (Cert.Kernel7Ideal.Samp.cut2 _ y).symm)
      exact (Cert.Kernel7Ideal.Samp.ref_row _ _ _ _ _).trans
        (Cert.Kernel7Ideal.Samp.array_eq m c _ _ (Cert.Kernel7Ideal.Samp.col_mod _ _ _ _ _)).symm

/-- The projection before the attention computes its reference, first group. -/
theorem alg8 : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    · refine (Cert.Reference8Ideal.Read.val_main_v31_eq _ _ _).trans ?_
      rw [(hagree c).2.2]
      exact (Cert.Kernel8Ideal.Attn.rows_ref m c).symm
    · refine (Cert.Reference8Ideal.Read.val_main_v33_eq _ _ _).trans ?_
      exact (Cert.Kernel8Ideal.Attn.kept_ref m c).symm

/-- The same, second group. -/
theorem alg9 : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · run_from Cert.Reference9Ideal.Value.run m' g'
    · refine (Cert.Reference9Ideal.Read.val_main_v31_eq _ _ _).trans ?_
      rw [(hagree c).2.2]
      exact (Cert.Kernel9Ideal.Attn.rows_ref m c).symm
    · refine (Cert.Reference9Ideal.Read.val_main_v33_eq _ _ _).trans ?_
      exact (Cert.Kernel9Ideal.Attn.kept_ref m c).symm

/-- The same, third group. -/
theorem alg10 : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · run_from Cert.Reference10Ideal.Value.run m' g'
    · refine (Cert.Reference10Ideal.Read.val_main_v31_eq _ _ _).trans ?_
      rw [(hagree c).2.2]
      exact (Cert.Kernel10Ideal.Attn.rows_ref m c).symm
    · refine (Cert.Reference10Ideal.Read.val_main_v32_eq _ _ _).trans ?_
      exact (Cert.Kernel10Ideal.Attn.kept_ref m c).symm

/-- Every claim, in the order the statement lists them. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    factsFinite,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    fun m ρ _ => Cert.Kernel2.Gen.frame m ρ,
    fun m ρ _ => Cert.Kernel2Ideal.Gen.frame m ρ,
    frame_ref2,
    fun m ρ _ => Cert.Kernel3.Gen.frame m ρ,
    fun m ρ _ => Cert.Kernel3Ideal.Gen.frame m ρ,
    frame_ref3,
    fun m ρ _ => Cert.Kernel4.Gen.frame m ρ,
    fun m ρ _ => Cert.Kernel4Ideal.Gen.frame m ρ,
    frame_ref4,
    fun m ρ _ => Cert.Kernel5.Gen.frame m ρ,
    fun m ρ _ => Cert.Kernel5Ideal.Gen.frame m ρ,
    frame_ref5,
    fun m ρ _ => Cert.Kernel6.Gen.frame m ρ,
    fun m ρ _ => Cert.Kernel6Ideal.Gen.frame m ρ,
    frame_ref6,
    fun m ρ _ => Cert.Kernel7.Gen.frame m ρ,
    fun m ρ _ => Cert.Kernel7Ideal.Gen.frame m ρ,
    frame_ref7,
    fun m ρ _ => Cert.Kernel8.Gen.frame m ρ,
    fun m ρ _ => Cert.Kernel8Ideal.Gen.frame m ρ,
    frame_ref8,
    fun m ρ _ => Cert.Kernel9.Gen.frame m ρ,
    fun m ρ _ => Cert.Kernel9Ideal.Gen.frame m ρ,
    frame_ref9,
    fun m ρ _ => Cert.Kernel10.Gen.frame m ρ,
    fun m ρ _ => Cert.Kernel10Ideal.Gen.frame m ρ,
    frame_ref10,
    trivial,
    alg1,
    trivial,
    alg2,
    trivial,
    alg3,
    trivial,
    alg4,
    trivial,
    alg5,
    trivial,
    alg6,
    trivial,
    alg7,
    trivial,
    alg8,
    trivial,
    alg9,
    trivial,
    alg10⟩

end Cert.Proof

end
